-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4096x2048 : Shape := ⟨2, ![4096, 2048]⟩
abbrev S4096x1 : Shape := ⟨2, ![4096, 1]⟩
abbrev S1000x10x2048 : Shape := ⟨3, ![1000, 10, 2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S1000x10x2048 : S_.BroadcastsInDim S1000x10x2048 (![] : Fin 0 → Fin S1000x10x2048.rank)
  reducesTo_S1000x10x2048_S_d0_1_2 : S1000x10x2048.ReducesTo [0, 1, 2] S_

variable [Facts]

def fn {F : FTy → Type} [FloatOps F] (main_arg0 : FVec F S4096x2048 .f32) (main_arg1 : IVec S4096x1 32) (main_arg2 : FVec F S1000x10x2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S1000x10x2048 .f32 := Host.absf main_arg2
  let main_cst_0 : FVec F S_ .f32 := constant S_ .f32 0x7F800000#32
  let main_v5 : FVec F S1000x10x2048 .f32 := broadcastInDim S1000x10x2048 ![] bcast_S_S1000x10x2048 main_cst_0
  let main_v6 : IVec S1000x10x2048 1 := cmpf .olt main_v4 main_v5
  let main_c_1 : IVec S_ 1 := constantI S_ 1 1#1
  let main_v7 : IVec S_ 1 := (fun x v => Host.reduce IntOp.andi x v reducesTo_S1000x10x2048_S_d0_1_2 h_S_) main_v6 main_c_1
  let main_v8 : IVec S_ 1 := andi main_v3 main_v7
  main_v8
-- ==== Kernel.lean ====
abbrev S4096x2048 : Shape := ⟨2, ![4096, 2048]⟩
abbrev S4096x1 : Shape := ⟨2, ![4096, 1]⟩
abbrev S1000x10x2048 : Shape := ⟨3, ![1000, 10, 2048]⟩
abbrev S10x1000x2048 : Shape := ⟨3, ![10, 1000, 2048]⟩
abbrev S1x1 : Shape := ⟨2, ![1, 1]⟩
abbrev S10x1000x256 : Shape := ⟨3, ![10, 1000, 256]⟩
abbrev S512x2048 : Shape := ⟨2, ![512, 2048]⟩
abbrev S512x1 : Shape := ⟨2, ![512, 1]⟩
abbrev S2048x1024 : Shape := ⟨2, ![2048, 1024]⟩
abbrev S1x1024 : Shape := ⟨2, ![1, 1024]⟩
abbrev S1000x256 : Shape := ⟨2, ![1000, 256]⟩
abbrev S256x1000 : Shape := ⟨2, ![256, 1000]⟩
abbrev S256x24 : Shape := ⟨2, ![256, 24]⟩
abbrev S256x1024 : Shape := ⟨2, ![256, 1024]⟩
abbrev S1024 : Shape := ⟨1, ![1024]⟩
abbrev S1536x2048 : Shape := ⟨2, ![1536, 2048]⟩
abbrev S1536x1024 : Shape := ⟨2, ![1536, 1024]⟩
abbrev S1024x2048 : Shape := ⟨2, ![1024, 2048]⟩
abbrev S1024x1024 : Shape := ⟨2, ![1024, 1024]⟩
abbrev S512x1024 : Shape := ⟨2, ![512, 1024]⟩
abbrev S512 : Shape := ⟨1, ![512]⟩
abbrev S1x512x1 : Shape := ⟨3, ![1, 512, 1]⟩
abbrev S1 : Shape := ⟨1, ![1]⟩
abbrev S1x1x1 : Shape := ⟨3, ![1, 1, 1]⟩
abbrev S_ : Shape := ⟨0, ![]⟩

abbrev nBuf : Space → Nat
  | .hbm => 7
  | .vmem => 13
  | .smem => 0
  | _ => 0

abbrev bufTy : (tb : Table) → Fin (tcTables nBuf tb) → BufTy
  | .hbm, ⟨0, _⟩ => ⟨S4096x2048, .f32⟩
  | .hbm, ⟨1, _⟩ => ⟨S4096x1, .i32⟩
  | .hbm, ⟨2, _⟩ => ⟨S1000x10x2048, .f32⟩
  | .hbm, ⟨3, _⟩ => ⟨S10x1000x2048, .f32⟩
  | .hbm, ⟨4, _⟩ => ⟨S4096x1, .i32⟩
  | .hbm, ⟨5, _⟩ => ⟨S1x1, .f32⟩
  | .hbm, ⟨6, _⟩ => ⟨S_, .f32⟩
  | .local _ .vmem, ⟨0, _⟩ => ⟨S10x1000x256, .f32⟩
  | .local _ .vmem, ⟨1, _⟩ => ⟨S10x1000x256, .f32⟩
  | .local _ .vmem, ⟨2, _⟩ => ⟨S512x2048, .f32⟩
  | .local _ .vmem, ⟨3, _⟩ => ⟨S512x2048, .f32⟩
  | .local _ .vmem, ⟨4, _⟩ => ⟨S512x1, .i32⟩
  | .local _ .vmem, ⟨5, _⟩ => ⟨S512x1, .i32⟩
  | .local _ .vmem, ⟨6, _⟩ => ⟨S512x1, .i32⟩
  | .local _ .vmem, ⟨7, _⟩ => ⟨S512x1, .i32⟩
  | .local _ .vmem, ⟨8, _⟩ => ⟨S1x1, .f32⟩
  | .local _ .vmem, ⟨9, _⟩ => ⟨S2048x1024, .bf16⟩
  | .local _ .vmem, ⟨10, _⟩ => ⟨S2048x1024, .bf16⟩
  | .local _ .vmem, ⟨11, _⟩ => ⟨S2048x1024, .bf16⟩
  | .local _ .vmem, ⟨12, _⟩ => ⟨S1x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c8_i32 : BitVec 32 := 8#32
  let v0 : BitVec 1 := Scalar.cmpi .slt arg0 c8_i32
  let v1 : BitVec 32 := Scalar.extui v0
  let c0_i32 : BitVec 32 := 0#32
  let v2 : BitVec 1 := Scalar.cmpi .ne v1 c0_i32
  v2

def k0_off1 (i : grid0.Coords) : Fin 2 → Nat :=
  let arg0 : BitVec 32 := BitVec.ofNat 32 (i 0).val
  let c256_i32 : BitVec 32 := 256#32
  let v23 : BitVec 32 := Scalar.muli arg0 c256_i32
  let v24 : Index := Scalar.indexCast v23
  let c0_7 : Index := 0#32
  ![v24.toNat, 0]
def k0_cond3 (i : grid0.Coords) : BitVec 1 :=
  let arg0 : BitVec 32 := BitVec.ofNat 32 (i 0).val
  let c8_i32_0 : BitVec 32 := 8#32
  let v3 : BitVec 1 := Scalar.cmpi .sge arg0 c8_i32_0
  let v4 : BitVec 32 := Scalar.extui v3
  let c0_i32_1 : BitVec 32 := 0#32
  let v5 : BitVec 1 := Scalar.cmpi .ne v4 c0_i32_1
  v5

def k0_cond4 (i : grid0.Coords) : BitVec 1 :=
  let arg0 : BitVec 32 := BitVec.ofNat 32 (i 0).val
  let c8_i32_23 : BitVec 32 := 8#32
  let v62 : BitVec 1 := Scalar.cmpi .eq arg0 c8_i32_23
  let v63 : BitVec 32 := Scalar.extui v62
  let c0_i32_24 : BitVec 32 := 0#32
  let v64 : BitVec 1 := Scalar.cmpi .ne v63 c0_i32_24
  v64

def k0_cond5 (i : grid0.Coords) : BitVec 1 :=
  let arg0 : BitVec 32 := BitVec.ofNat 32 (i 0).val
  let c15_i32 : BitVec 32 := 15#32
  let v69 : BitVec 1 := Scalar.cmpi .eq arg0 c15_i32
  let v70 : BitVec 32 := Scalar.extui v69
  let c0_i32_29 : BitVec 32 := 0#32
  let v71 : BitVec 1 := Scalar.cmpi .ne v70 c0_i32_29
  v71

def cc0_transform_0 (i : grid0.Coords) : Fin 3 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  let c0_i32_1 : BitVec 32 := 0#32
  ![c0_i32.toNat, c0_i32_0.toNat, v0.toNat]

def cc0_transform_1 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S10x1000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S4096x2048 : Shape := ⟨2, ![4096, 2048]⟩
abbrev S4096x1 : Shape := ⟨2, ![4096, 1]⟩
abbrev S1000x10x2048 : Shape := ⟨3, ![1000, 10, 2048]⟩
abbrev S_ : Shape := ⟨0, ![]⟩
abbrev S1000x2048 : Shape := ⟨2, ![1000, 2048]⟩
abbrev S4096x1x2048 : Shape := ⟨3, ![4096, 1, 2048]⟩
abbrev S1x1000x2048 : Shape := ⟨3, ![1, 1000, 2048]⟩
abbrev S4096x1000x2048 : Shape := ⟨3, ![4096, 1000, 2048]⟩
abbrev S4096x1000 : Shape := ⟨2, ![4096, 1000]⟩
abbrev S4096 : Shape := ⟨1, ![4096]⟩

abbrev nBuf : Space → Nat
  | .hbm => 33
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x1, .i32⟩
  | .hbm, ⟨2, _⟩ => ⟨S1000x10x2048, .f32⟩
  | .hbm, ⟨3, _⟩ => ⟨S_, .f32⟩
  | .hbm, ⟨4, _⟩ => ⟨S1000x2048, .f32⟩
  | .hbm, ⟨5, _⟩ => ⟨S_, .f32⟩
  | .hbm, ⟨6, _⟩ => ⟨S1000x2048, .f32⟩
  | .hbm, ⟨7, _⟩ => ⟨S1000x2048, .f32⟩
  | .hbm, ⟨8, _⟩ => ⟨S4096x1x2048, .f32⟩
  | .hbm, ⟨9, _⟩ => ⟨S1x1000x2048, .f32⟩
  | .hbm, ⟨10, _⟩ => ⟨S4096x1000x2048, .f32⟩
  | .hbm, ⟨11, _⟩ => ⟨S4096x1000x2048, .f32⟩
  | .hbm, ⟨12, _⟩ => ⟨S4096x1000x2048, .f32⟩
  | .hbm, ⟨13, _⟩ => ⟨S_, .f32⟩
  | .hbm, ⟨14, _⟩ => ⟨S4096x1000x2048, .f32⟩
  | .hbm, ⟨15, _⟩ => ⟨S4096x1000x2048, .f32⟩
  | .hbm, ⟨16, _⟩ => ⟨S4096x1000x2048, .f32⟩
  | .hbm, ⟨17, _⟩ => ⟨S_, .f32⟩
  | .hbm, ⟨18, _⟩ => ⟨S4096x1000, .f32⟩
  | .hbm, ⟨19, _⟩ => ⟨S4096x1000, .f32⟩
  | .hbm, ⟨20, _⟩ => ⟨S4096x1000, .i32⟩
  | .hbm, ⟨21, _⟩ => ⟨S_, .f32⟩
  | .hbm, ⟨22, _⟩ => ⟨S_, .i32⟩
  | .hbm, ⟨23, _⟩ => ⟨S4096, .f32⟩
  | .hbm, ⟨24, _⟩ => ⟨S4096, .i32⟩
  | .hbm, ⟨25, _⟩ => ⟨S4096x1, .i32⟩
  | .hbm, ⟨26, _⟩ => ⟨S4096x1, .i1⟩
  | .hbm, ⟨27, _⟩ => ⟨S4096x1, .i32⟩
  | .hbm, ⟨28, _⟩ => ⟨S_, .i32⟩
  | .hbm, ⟨29, _⟩ => ⟨S_, .i32⟩
  | .hbm, ⟨30, _⟩ => ⟨S_, .f32⟩
  | .hbm, ⟨31, _⟩ => ⟨S_, .f32⟩
  | .hbm, ⟨32, _⟩ => ⟨S_, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_call0_v0 : Ref sig .tc := ⟨.hbm, 20, rfl⟩
abbrev main_call0_cst : Ref sig .tc := ⟨.hbm, 21, rfl⟩
abbrev main_call0_c : Ref sig .tc := ⟨.hbm, 22, rfl⟩
abbrev main_call0_v1_0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩

abbrev nD : Nat := 1
abbrev τ : Topo := Topo.v7x

variable {F : FTy → Type} [FloatOps F]
-- ==== Proof.Grid.lean ====
/- The sixteen points of the kernel's grid: which branch of the body each point takes, where the two output windows are
   idle, when their blocks are written back, and the names of the buffers the body works on. -/
module

public import proofs.«01_k».proof.Proof.Gen.KernelIdeal.Frame
public import proofs.«01_k».proof.Proof.Gen.KernelIdeal.Skeleton
public import Idealize.ShloMosaic.Lib.Pipeline.TableIdle

@[expose] public section

set_option maxRecDepth 16384

noncomputable section

namespace Cert.KernelIdeal.Val

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-! ## The branches -/

/-- The guard of the zeroing of the squared norms. -/
abbrev firstPoint (i : grid0.Coords) : Prop :=
  (Scalar.cmpi .ne (Scalar.extui (Scalar.cmpi .eq (BitVec.ofNat 32 (i 0).val) 0#32)) 0#32) = 1#1

/-- The first eight points prepare the memory. -/
theorem prep_iff : ∀ t : Fin cfg0.N, k0_cond1 (grid0.coords t) = 1#1 ↔ t.val < 8 :=
  (by decide +kernel : ∀ t : Fin grid0.N, k0_cond1 (grid0.coords t) = 1#1 ↔ t.val < 8)

/-- The first point zeroes the squared norms. -/
theorem first_iff : ∀ t : Fin cfg0.N, firstPoint (grid0.coords t) ↔ t.val = 0 :=
  (by decide +kernel : ∀ t : Fin grid0.N, firstPoint (grid0.coords t) ↔ t.val = 0)

/-- The last eight points score instances. -/
theorem score_iff : ∀ t : Fin cfg0.N, k0_cond3 (grid0.coords t) = 1#1 ↔ 8 ≤ t.val :=
  (by decide +kernel : ∀ t : Fin grid0.N, k0_cond3 (grid0.coords t) = 1#1 ↔ 8 ≤ t.val)

/-- Point 8 zeroes the count of hits. -/
theorem zero_iff : ∀ t : Fin cfg0.N, k0_cond4 (grid0.coords t) = 1#1 ↔ t.val = 8 :=
  (by decide +kernel : ∀ t : Fin grid0.N, k0_cond4 (grid0.coords t) = 1#1 ↔ t.val = 8)

/-- Point 15 scales the count of hits. -/
theorem last_iff : ∀ t : Fin cfg0.N, k0_cond5 (grid0.coords t) = 1#1 ↔ t.val = 15 :=
  (by decide +kernel : ∀ t : Fin grid0.N, k0_cond5 (grid0.coords t) = 1#1 ↔ t.val = 15)

/-- The rows of the prepared memory that point `t` stores. -/
theorem off_eq : ∀ t : Fin cfg0.N, t.val < 8 → k0_off1 (grid0.coords t) = ![256 * t.val, 0] :=
  (by decide +kernel : ∀ t : Fin grid0.N, t.val < 8 → k0_off1 (grid0.coords t) = ![256 * t.val, 0])

/-! ## Where the outputs are idle, and when they are written back -/

theorem idle3 : ∀ t : Fin cfg0.N, cfg0.idle 3 (grid0.coords t) = decide (t.val < 8) :=
  (by decide +kernel : ∀ t : Fin grid0.N, idle0 3 (grid0.coords t) = decide (t.val < 8))

theorem idle4 : ∀ t : Fin cfg0.N, cfg0.idle 4 (grid0.coords t) = decide (t.val < 8) :=
  (by decide +kernel : ∀ t : Fin grid0.N, idle0 4 (grid0.coords t) = decide (t.val < 8))

theorem flush3 : ∀ t : Fin cfg0.N, (cfg0.win 3).flush t = decide (8 ≤ t.val) :=
  (by decide +kernel : ∀ t : Fin grid0.N, win0_3.flush t = decide (8 ≤ t.val))

theorem flush4 : ∀ t : Fin cfg0.N, (cfg0.win 4).flush t = decide (t.val = 15) :=
  (by decide +kernel : ∀ t : Fin grid0.N, win0_4.flush t = decide (t.val = 15))

/-- Until point 8 has run, nothing the body stored is in the buffer of the count. -/
theorem fresh4 : ∀ n, n ≤ cfg0.N → cfg0.fresh 4 n = decide (n ≤ 8) ∨ n = 16 :=
  fun n hn => by
    by_cases h : n = 16
    · exact .inr h
    · refine .inl ?_
      have hN : cfg0.N = 16 := N_0
      have hlt : n < 16 := by omega
      have key : ∀ k : Fin 16, cfg0.fresh 4 k.val = decide (k.val ≤ 8) := by decide +kernel
      exact key ⟨n, hlt⟩

/-! ## The buffers of the body -/

abbrev ms0 (t : Fin cfg0.N) : Memref sig .tc .vmem S10x1000x256 .f32 := win0_0.stage (cfg0.slots t 0)
abbrev ms1 (t : Fin cfg0.N) : Memref sig .tc .vmem S512x2048 .f32 := win0_1.stage (cfg0.slots t 1)
abbrev ms2 (t : Fin cfg0.N) : Memref sig .tc .vmem S512x1 .i32 := win0_2.stage (cfg0.slots t 2)
abbrev ms3 (t : Fin cfg0.N) : Memref sig .tc .vmem S512x1 .i32 := win0_3.stage (cfg0.slots t 3)
abbrev ms4 (t : Fin cfg0.N) : Memref sig .tc .vmem S1x1 .f32 := win0_4.stage (cfg0.slots t 4)
abbrev sc0 : Memref sig .tc .vmem S2048x1024 .bf16 := Memref.whole cc0_scratch0
abbrev sc1 : Memref sig .tc .vmem S2048x1024 .bf16 := Memref.whole cc0_scratch1
abbrev sc2 : Memref sig .tc .vmem S2048x1024 .bf16 := Memref.whole cc0_scratch2
abbrev sc3 : Memref sig .tc .vmem S1x1024 .f32 := Memref.whole cc0_scratch3

/-- What the launch hands the region beside the windows: the four scratch buffers at some contents and the generator
    register at some state. -/
theorem launchRest_eq (c : Dev nD) :
    (Pipeline.ΦA spec0 c : sProp 𝕄)
      = iprop(iprop((∃ d, owns (c : Thread nD τ) sc0 fullShare d) ∗ (∃ d, owns (c : Thread nD τ) sc1 fullShare d)
          ∗ (∃ d, owns (c : Thread nD τ) sc2 fullShare d) ∗ (∃ d, owns (c : Thread nD τ) sc3 fullShare d))
          ∗ (∃ r, prngReg c r)) := by
  unfold Pipeline.ΦA; rw [scopedRest0_eq]; simp only [sc0, sc1, sc2, sc3, owns_whole]; try rfl

end Cert.KernelIdeal.Val

end
-- ==== Proof.PrepRun.lean ====
/- What the body does at a preparing point (points 0 to 7): it stores its 256 rows of the three parts of the mean memory
   into the three large scratch buffers, and adds the rows' squares to the squared norms (from zero at the first point). -/
module

public import proofs.«01_k».proof.Proof.Grid
public import Idealize.ShloMosaic.Lib.VecWindow

@[expose] public section

set_option maxRecDepth 16384

noncomputable section

namespace Cert.KernelIdeal.Val

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A scratch buffer with the 256 rows a preparing point stores put into it. -/
abbrev putRows (i : grid0.Coords) (d : Vec F S2048x1024 .bf16) (w : FVec F S256x1024 .bf16) : Vec F S2048x1024 .bf16 :=
  VecWindow.put d (k0_off1 i) S256x1024.size w

set_option maxHeartbeats 1000000 in
/-- The first point: the squared norms are zeroed before the point's own are added. -/
theorem run_first (c : Dev nD) (i : grid0.Coords)
    (arg1 : Memref sig .tc .vmem S10x1000x256 .f32) (harg1 : arg1.IsWhole) (arg2 : Memref sig .tc .vmem S512x2048 .f32) (harg2 : arg2.IsWhole) (arg3 : Memref sig .tc .vmem S512x1 .i32) (harg3 : arg3.IsWhole)
    (arg4 : Memref sig .tc .vmem S512x1 .i32) (harg4 : arg4.IsWhole) (arg5 : Memref sig .tc .vmem S1x1 .f32) (harg5 : arg5.IsWhole) (arg6 : Memref sig .tc .vmem S2048x1024 .bf16) (harg6 : arg6.IsWhole)
    (arg7 : Memref sig .tc .vmem S2048x1024 .bf16) (harg7 : arg7.IsWhole) (arg8 : Memref sig .tc .vmem S2048x1024 .bf16) (harg8 : arg8.IsWhole) (arg9 : Memref sig .tc .vmem S1x1024 .f32) (harg9 : arg9.IsWhole)
    (hc0 : k0_cond1 i = 1#1) (hc1 : firstPoint i) (hc2 : ¬k0_cond3 i = 1#1)
    (x0 : Vec F S10x1000x256 .f32) (x1 : Vec F S512x2048 .f32) (x2 : Vec F S512x1 .i32) (x3 : Vec F S512x1 .i32) (x4 : Vec F S1x1 .f32)
    (s0 s1 s2 : Vec F S2048x1024 .bf16) (s3 : Vec F S1x1024 .f32) (E : Set ℕ) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare s0
        ∗ owns (c : Thread nD τ) arg7 fullShare s1
        ∗ owns (c : Thread nD τ) arg8 fullShare s2
        ∗ owns (c : Thread nD τ) arg9 fullShare s3
        ∗ (iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare (putRows i s0 (k0_pay10 x0))
        ∗ owns (c : Thread nD τ) arg7 fullShare (putRows i s1 (k0_pay11 x0))
        ∗ owns (c : Thread nD τ) arg8 fullShare (putRows i s2 (k0_pay12 x0))
        ∗ owns (c : Thread nD τ) arg9 fullShare (k0_pay1 (k0_pay14 x0 (k0_pay13 (F := F))))) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9) K := by
  simp only [cc0__fused_kernel_eq_skeleton]; unfold cc0__fused_kernel_skel
  simp only [k0_part1_eq_skeleton]
  unfold owns
  iintro ⟨⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, Hk⟩
  sl_exec (disch := first | sl_exact hc0 | sl_exact hc1 | sl_exact hc2)
  sl_step
  iapply Hk
  isplitl [H1]
  · iexists _; isplitr; · ipureintro; exact h1
    iexact H1
  isplitl [H2]
  · iexists _; isplitr; · ipureintro; exact h2
    iexact H2
  isplitl [H3]
  · iexists _; isplitr; · ipureintro; exact h3
    iexact H3
  isplitl [H4]
  · iexists _; isplitr; · ipureintro; exact h4
    iexact H4
  isplitl [H5]
  · iexists _; isplitr; · ipureintro; exact h5
    iexact H5
  isplitl [H6]
  · iexists _; isplitr; swap; · iexact H6
    ipureintro
    rw [View.read_writes_cons_put _ _ _ _ _ rfl, View.writes_nil, h6]
    exact congrArg (putRows i s0) (congrArg k0_pay10 ((View.readAt_full (s := S10x1000x256) _ _ _).trans h1))
  isplitl [H7]
  · iexists _; isplitr; swap; · iexact H7
    ipureintro
    rw [View.read_writes_cons_put _ _ _ _ _ rfl, View.writes_nil, h7]
    exact congrArg (putRows i s1) (congrArg k0_pay11 ((View.readAt_full (s := S10x1000x256) _ _ _).trans h1))
  isplitl [H8]
  · iexists _; isplitr; swap; · iexact H8
    ipureintro
    rw [View.read_writes_cons_put _ _ _ _ _ rfl, View.writes_nil, h8]
    exact congrArg (putRows i s2) (congrArg k0_pay12 ((View.readAt_full (s := S10x1000x256) _ _ _).trans h1))
  iexists _; isplitr; swap; · iexact H9
  ipureintro
  refine (View.read_writes_full (s := S1x1024) _ _ _ _ _).trans ?_
  exact congrArg k0_pay1 (congrArg₂ k0_pay14 ((View.readAt_full (s := S10x1000x256) _ _ _).trans h1) (View.readCov_full (s := S1x1024) _ _ _ _ _))

set_option maxHeartbeats 1000000 in
/-- Points 1 to 7: the point's squared norms are added to those so far. -/
theorem run_prep (c : Dev nD) (i : grid0.Coords)
    (arg1 : Memref sig .tc .vmem S10x1000x256 .f32) (harg1 : arg1.IsWhole) (arg2 : Memref sig .tc .vmem S512x2048 .f32) (harg2 : arg2.IsWhole) (arg3 : Memref sig .tc .vmem S512x1 .i32) (harg3 : arg3.IsWhole)
    (arg4 : Memref sig .tc .vmem S512x1 .i32) (harg4 : arg4.IsWhole) (arg5 : Memref sig .tc .vmem S1x1 .f32) (harg5 : arg5.IsWhole) (arg6 : Memref sig .tc .vmem S2048x1024 .bf16) (harg6 : arg6.IsWhole)
    (arg7 : Memref sig .tc .vmem S2048x1024 .bf16) (harg7 : arg7.IsWhole) (arg8 : Memref sig .tc .vmem S2048x1024 .bf16) (harg8 : arg8.IsWhole) (arg9 : Memref sig .tc .vmem S1x1024 .f32) (harg9 : arg9.IsWhole)
    (hc0 : k0_cond1 i = 1#1) (hc1 : ¬firstPoint i) (hc2 : ¬k0_cond3 i = 1#1)
    (x0 : Vec F S10x1000x256 .f32) (x1 : Vec F S512x2048 .f32) (x2 : Vec F S512x1 .i32) (x3 : Vec F S512x1 .i32) (x4 : Vec F S1x1 .f32)
    (s0 s1 s2 : Vec F S2048x1024 .bf16) (s3 : Vec F S1x1024 .f32) (E : Set ℕ) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare s0
        ∗ owns (c : Thread nD τ) arg7 fullShare s1
        ∗ owns (c : Thread nD τ) arg8 fullShare s2
        ∗ owns (c : Thread nD τ) arg9 fullShare s3
        ∗ (iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare (putRows i s0 (k0_pay10 x0))
        ∗ owns (c : Thread nD τ) arg7 fullShare (putRows i s1 (k0_pay11 x0))
        ∗ owns (c : Thread nD τ) arg8 fullShare (putRows i s2 (k0_pay12 x0))
        ∗ owns (c : Thread nD τ) arg9 fullShare (k0_pay1 (k0_pay14 x0 s3))) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9) K := by
  simp only [cc0__fused_kernel_eq_skeleton]; unfold cc0__fused_kernel_skel
  simp only [k0_part1_eq_skeleton]
  unfold owns
  iintro ⟨⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, Hk⟩
  sl_exec (disch := first | sl_exact hc0 | sl_exact hc1 | sl_exact hc2)
  sl_step
  iapply Hk
  isplitl [H1]
  · iexists _; isplitr; · ipureintro; exact h1
    iexact H1
  isplitl [H2]
  · iexists _; isplitr; · ipureintro; exact h2
    iexact H2
  isplitl [H3]
  · iexists _; isplitr; · ipureintro; exact h3
    iexact H3
  isplitl [H4]
  · iexists _; isplitr; · ipureintro; exact h4
    iexact H4
  isplitl [H5]
  · iexists _; isplitr; · ipureintro; exact h5
    iexact H5
  isplitl [H6]
  · iexists _; isplitr; swap; · iexact H6
    ipureintro
    rw [View.read_writes_cons_put _ _ _ _ _ rfl, View.writes_nil, h6]
    exact congrArg (putRows i s0) (congrArg k0_pay10 ((View.readAt_full (s := S10x1000x256) _ _ _).trans h1))
  isplitl [H7]
  · iexists _; isplitr; swap; · iexact H7
    ipureintro
    rw [View.read_writes_cons_put _ _ _ _ _ rfl, View.writes_nil, h7]
    exact congrArg (putRows i s1) (congrArg k0_pay11 ((View.readAt_full (s := S10x1000x256) _ _ _).trans h1))
  isplitl [H8]
  · iexists _; isplitr; swap; · iexact H8
    ipureintro
    rw [View.read_writes_cons_put _ _ _ _ _ rfl, View.writes_nil, h8]
    exact congrArg (putRows i s2) (congrArg k0_pay12 ((View.readAt_full (s := S10x1000x256) _ _ _).trans h1))
  iexists _; isplitr; swap; · iexact H9
  ipureintro
  refine (View.read_writes_full (s := S1x1024) _ _ _ _ _).trans ?_
  exact congrArg k0_pay1 (congrArg₂ k0_pay14 ((View.readAt_full (s := S10x1000x256) _ _ _).trans h1) ((View.readAt_full (s := S1x1024) _ _ _).trans h9))

end Cert.KernelIdeal.Val

end
-- ==== Proof.ScoreRun.lean ====
/- What the body does at a scoring point (points 8 to 15): it stores the 512 class numbers it chose, and adds the number of
   hits among them to the count (from zero at point 8; scaled at point 15). -/
module

public import proofs.«01_k».proof.Proof.PrepRun

@[expose] public section

set_option maxRecDepth 16384

noncomputable section

namespace Cert.KernelIdeal.Val

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The class numbers a scoring point chooses for its 512 instances `x`, from the three parts of the mean memory and the
    squared norms `n`. -/
abbrev chosen (x : Vec F S512x2048 .f32) (m1 m2 m3 : Vec F S2048x1024 .bf16) (n : Vec F S1x1024 .f32) : IVec S512x1 32 :=
  k0_pay2 (F := F) k0_pay15 (k0_pay16 x m1 m2 m3 n) k0_pay17

/-- The count of hits after a scoring point that found `a` in the buffer: `a` plus the number of its instances whose label
    is the class chosen. -/
abbrev counted (x : Vec F S512x2048 .f32) (m1 m2 m3 : Vec F S2048x1024 .bf16) (n : Vec F S1x1024 .f32) (l : IVec S512x1 32)
    (a : Vec F S1x1 .f32) : FVec F S1x1 .f32 :=
  k0_pay4 (F := F) k0_pay15 (k0_pay16 x m1 m2 m3 n) k0_pay17 l a

set_option maxHeartbeats 1000000 in
/-- Point 8: the count is zeroed before the point's hits are added. -/
theorem run_zero (c : Dev nD) (i : grid0.Coords)
    (arg1 : Memref sig .tc .vmem S10x1000x256 .f32) (harg1 : arg1.IsWhole) (arg2 : Memref sig .tc .vmem S512x2048 .f32) (harg2 : arg2.IsWhole) (arg3 : Memref sig .tc .vmem S512x1 .i32) (harg3 : arg3.IsWhole)
    (arg4 : Memref sig .tc .vmem S512x1 .i32) (harg4 : arg4.IsWhole) (arg5 : Memref sig .tc .vmem S1x1 .f32) (harg5 : arg5.IsWhole) (arg6 : Memref sig .tc .vmem S2048x1024 .bf16) (harg6 : arg6.IsWhole)
    (arg7 : Memref sig .tc .vmem S2048x1024 .bf16) (harg7 : arg7.IsWhole) (arg8 : Memref sig .tc .vmem S2048x1024 .bf16) (harg8 : arg8.IsWhole) (arg9 : Memref sig .tc .vmem S1x1024 .f32) (harg9 : arg9.IsWhole)
    (hc0 : ¬k0_cond1 i = 1#1) (hc2 : k0_cond3 i = 1#1) (hc3 : k0_cond4 i = 1#1) (hc4 : ¬k0_cond5 i = 1#1)
    (x0 : Vec F S10x1000x256 .f32) (x1 : Vec F S512x2048 .f32) (x2 : Vec F S512x1 .i32) (x3 : Vec F S512x1 .i32) (x4 : Vec F S1x1 .f32)
    (s0 s1 s2 : Vec F S2048x1024 .bf16) (s3 : Vec F S1x1024 .f32) (E : Set ℕ) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare s0
        ∗ owns (c : Thread nD τ) arg7 fullShare s1
        ∗ owns (c : Thread nD τ) arg8 fullShare s2
        ∗ owns (c : Thread nD τ) arg9 fullShare s3
        ∗ (iprop(owns (c : Thread nD τ) arg1 fullShare x0
        ∗ owns (c : Thread nD τ) arg2 fullShare x1
        ∗ owns (c : Thread nD τ) arg3 fullShare x2
        ∗ owns (c : Thread nD τ) arg4 fullShare (chosen x1 s0 s1 s2 s3)
        ∗ owns (c : Thread nD τ) arg5 fullShare (counted x1 s0 s1 s2 s3 x2 (k0_pay3 (F := F)))
        ∗ owns (c : Thread nD τ) arg6 fullShare s0
        ∗ owns (c : Thread nD τ) arg7 fullShare s1
        ∗ owns (c : Thread nD τ) arg8 fullShare s2
        ∗ owns (c : Thread nD τ) arg9 fullShare s3) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9) K := by
  simp only [cc0__fused_kernel_eq_skeleton]; unfold cc0__fused_kernel_skel
  simp only [k0_part2_eq_skeleton]
  unfold owns
  iintro ⟨⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, Hk⟩
  sl_exec (disch := first | sl_exact hc0 | sl_exact hc2 | sl_exact hc3 | sl_exact hc4)
  sl_step
  have e2 := (View.readAt_full (s := S512x2048) arg2.view f2 inb_S512x2048_S512x2048_0_0).trans h2
  have e3 := (View.readAt_full (s := S512x1) arg3.view f3 inb_S512x1_S512x1_0_0).trans h3
  have e5 := (View.readAt_full (s := S1x1) arg5.view f5 inb_S1x1_S1x1_0_0).trans h5
  have e6 := (View.readAt_full (s := S2048x1024) arg6.view f6 inb_S2048x1024_S2048x1024_0_0).trans h6
  have e7 := (View.readAt_full (s := S2048x1024) arg7.view f7 inb_S2048x1024_S2048x1024_0_0).trans h7
  have e8 := (View.readAt_full (s := S2048x1024) arg8.view f8 inb_S2048x1024_S2048x1024_0_0).trans h8
  have e9 := (View.readAt_full (s := S1x1024) arg9.view f9 inb_S1x1024_S1x1024_0_0).trans h9
  iapply Hk
  isplitl [H1]
  · iexists _; isplitr; · ipureintro; exact h1
    iexact H1
  isplitl [H2]
  · iexists _; isplitr; · ipureintro; exact h2
    iexact H2
  isplitl [H3]
  · iexists _; isplitr; · ipureintro; exact h3
    iexact H3
  isplitl [H4]
  · iexists _; isplitr; swap; · iexact H4
    ipureintro
    refine (View.read_writes_full (s := S512x1) _ _ _ _ _).trans ?_
    have hc := congr (congr (congr (congr (congrArg (chosen (F := F)) e2) e6) e7) e8) e9
    exact hc
  isplitl [H5]
  · iexists _; isplitr; swap; · iexact H5
    ipureintro
    refine (View.read_writes_full (s := S1x1) _ _ _ _ _).trans ?_
    exact congr (congr (congr (congr (congr (congr (congrArg (counted (F := F)) e2) e6) e7) e8) e9) e3) (View.readCov_full (s := S1x1) _ _ _ _ _)
  isplitl [H6]
  · iexists _; isplitr; · ipureintro; exact h6
    iexact H6
  isplitl [H7]
  · iexists _; isplitr; · ipureintro; exact h7
    iexact H7
  isplitl [H8]
  · iexists _; isplitr; · ipureintro; exact h8
    iexact H8
  iexists _; isplitr; · ipureintro; exact h9
  iexact H9

set_option maxHeartbeats 1000000 in
/-- Points 9 to 14: the point's hits are added to the count. -/
theorem run_score (c : Dev nD) (i : grid0.Coords)
    (arg1 : Memref sig .tc .vmem S10x1000x256 .f32) (harg1 : arg1.IsWhole) (arg2 : Memref sig .tc .vmem S512x2048 .f32) (harg2 : arg2.IsWhole) (arg3 : Memref sig .tc .vmem S512x1 .i32) (harg3 : arg3.IsWhole)
    (arg4 : Memref sig .tc .vmem S512x1 .i32) (harg4 : arg4.IsWhole) (arg5 : Memref sig .tc .vmem S1x1 .f32) (harg5 : arg5.IsWhole) (arg6 : Memref sig .tc .vmem S2048x1024 .bf16) (harg6 : arg6.IsWhole)
    (arg7 : Memref sig .tc .vmem S2048x1024 .bf16) (harg7 : arg7.IsWhole) (arg8 : Memref sig .tc .vmem S2048x1024 .bf16) (harg8 : arg8.IsWhole) (arg9 : Memref sig .tc .vmem S1x1024 .f32) (harg9 : arg9.IsWhole)
    (hc0 : ¬k0_cond1 i = 1#1) (hc2 : k0_cond3 i = 1#1) (hc3 : ¬k0_cond4 i = 1#1) (hc4 : ¬k0_cond5 i = 1#1)
    (x0 : Vec F S10x1000x256 .f32) (x1 : Vec F S512x2048 .f32) (x2 : Vec F S512x1 .i32) (x3 : Vec F S512x1 .i32) (x4 : Vec F S1x1 .f32)
    (s0 s1 s2 : Vec F S2048x1024 .bf16) (s3 : Vec F S1x1024 .f32) (E : Set ℕ) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare s0
        ∗ owns (c : Thread nD τ) arg7 fullShare s1
        ∗ owns (c : Thread nD τ) arg8 fullShare s2
        ∗ owns (c : Thread nD τ) arg9 fullShare s3
        ∗ (iprop(owns (c : Thread nD τ) arg1 fullShare x0
        ∗ owns (c : Thread nD τ) arg2 fullShare x1
        ∗ owns (c : Thread nD τ) arg3 fullShare x2
        ∗ owns (c : Thread nD τ) arg4 fullShare (chosen x1 s0 s1 s2 s3)
        ∗ owns (c : Thread nD τ) arg5 fullShare (counted x1 s0 s1 s2 s3 x2 x4)
        ∗ owns (c : Thread nD τ) arg6 fullShare s0
        ∗ owns (c : Thread nD τ) arg7 fullShare s1
        ∗ owns (c : Thread nD τ) arg8 fullShare s2
        ∗ owns (c : Thread nD τ) arg9 fullShare s3) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9) K := by
  simp only [cc0__fused_kernel_eq_skeleton]; unfold cc0__fused_kernel_skel
  simp only [k0_part2_eq_skeleton]
  unfold owns
  iintro ⟨⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, Hk⟩
  sl_exec (disch := first | sl_exact hc0 | sl_exact hc2 | sl_exact hc3 | sl_exact hc4)
  sl_step
  have e2 := (View.readAt_full (s := S512x2048) arg2.view f2 inb_S512x2048_S512x2048_0_0).trans h2
  have e3 := (View.readAt_full (s := S512x1) arg3.view f3 inb_S512x1_S512x1_0_0).trans h3
  have e5 := (View.readAt_full (s := S1x1) arg5.view f5 inb_S1x1_S1x1_0_0).trans h5
  have e6 := (View.readAt_full (s := S2048x1024) arg6.view f6 inb_S2048x1024_S2048x1024_0_0).trans h6
  have e7 := (View.readAt_full (s := S2048x1024) arg7.view f7 inb_S2048x1024_S2048x1024_0_0).trans h7
  have e8 := (View.readAt_full (s := S2048x1024) arg8.view f8 inb_S2048x1024_S2048x1024_0_0).trans h8
  have e9 := (View.readAt_full (s := S1x1024) arg9.view f9 inb_S1x1024_S1x1024_0_0).trans h9
  iapply Hk
  isplitl [H1]
  · iexists _; isplitr; · ipureintro; exact h1
    iexact H1
  isplitl [H2]
  · iexists _; isplitr; · ipureintro; exact h2
    iexact H2
  isplitl [H3]
  · iexists _; isplitr; · ipureintro; exact h3
    iexact H3
  isplitl [H4]
  · iexists _; isplitr; swap; · iexact H4
    ipureintro
    refine (View.read_writes_full (s := S512x1) _ _ _ _ _).trans ?_
    have hc := congr (congr (congr (congr (congrArg (chosen (F := F)) e2) e6) e7) e8) e9
    exact hc
  isplitl [H5]
  · iexists _; isplitr; swap; · iexact H5
    ipureintro
    refine (View.read_writes_full (s := S1x1) _ _ _ _ _).trans ?_
    exact congr (congr (congr (congr (congr (congr (congrArg (counted (F := F)) e2) e6) e7) e8) e9) e3) e5
  isplitl [H6]
  · iexists _; isplitr; · ipureintro; exact h6
    iexact H6
  isplitl [H7]
  · iexists _; isplitr; · ipureintro; exact h7
    iexact H7
  isplitl [H8]
  · iexists _; isplitr; · ipureintro; exact h8
    iexact H8
  iexists _; isplitr; · ipureintro; exact h9
  iexact H9

set_option maxHeartbeats 1000000 in
/-- Point 15: the point's hits are added to the count, and the count is scaled. -/
theorem run_last (c : Dev nD) (i : grid0.Coords)
    (arg1 : Memref sig .tc .vmem S10x1000x256 .f32) (harg1 : arg1.IsWhole) (arg2 : Memref sig .tc .vmem S512x2048 .f32) (harg2 : arg2.IsWhole) (arg3 : Memref sig .tc .vmem S512x1 .i32) (harg3 : arg3.IsWhole)
    (arg4 : Memref sig .tc .vmem S512x1 .i32) (harg4 : arg4.IsWhole) (arg5 : Memref sig .tc .vmem S1x1 .f32) (harg5 : arg5.IsWhole) (arg6 : Memref sig .tc .vmem S2048x1024 .bf16) (harg6 : arg6.IsWhole)
    (arg7 : Memref sig .tc .vmem S2048x1024 .bf16) (harg7 : arg7.IsWhole) (arg8 : Memref sig .tc .vmem S2048x1024 .bf16) (harg8 : arg8.IsWhole) (arg9 : Memref sig .tc .vmem S1x1024 .f32) (harg9 : arg9.IsWhole)
    (hc0 : ¬k0_cond1 i = 1#1) (hc2 : k0_cond3 i = 1#1) (hc3 : ¬k0_cond4 i = 1#1) (hc4 : k0_cond5 i = 1#1)
    (x0 : Vec F S10x1000x256 .f32) (x1 : Vec F S512x2048 .f32) (x2 : Vec F S512x1 .i32) (x3 : Vec F S512x1 .i32) (x4 : Vec F S1x1 .f32)
    (s0 s1 s2 : Vec F S2048x1024 .bf16) (s3 : Vec F S1x1024 .f32) (E : Set ℕ) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare s0
        ∗ owns (c : Thread nD τ) arg7 fullShare s1
        ∗ owns (c : Thread nD τ) arg8 fullShare s2
        ∗ owns (c : Thread nD τ) arg9 fullShare s3
        ∗ (iprop(owns (c : Thread nD τ) arg1 fullShare x0
        ∗ owns (c : Thread nD τ) arg2 fullShare x1
        ∗ owns (c : Thread nD τ) arg3 fullShare x2
        ∗ owns (c : Thread nD τ) arg4 fullShare (chosen x1 s0 s1 s2 s3)
        ∗ owns (c : Thread nD τ) arg5 fullShare (k0_pay5 (counted x1 s0 s1 s2 s3 x2 x4))
        ∗ owns (c : Thread nD τ) arg6 fullShare s0
        ∗ owns (c : Thread nD τ) arg7 fullShare s1
        ∗ owns (c : Thread nD τ) arg8 fullShare s2
        ∗ owns (c : Thread nD τ) arg9 fullShare s3) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9) K := by
  simp only [cc0__fused_kernel_eq_skeleton]; unfold cc0__fused_kernel_skel
  simp only [k0_part2_eq_skeleton]
  unfold owns
  iintro ⟨⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, Hk⟩
  sl_exec (disch := first | sl_exact hc0 | sl_exact hc2 | sl_exact hc3 | sl_exact hc4)
  sl_step
  have e2 := (View.readAt_full (s := S512x2048) arg2.view f2 inb_S512x2048_S512x2048_0_0).trans h2
  have e3 := (View.readAt_full (s := S512x1) arg3.view f3 inb_S512x1_S512x1_0_0).trans h3
  have e5 := (View.readAt_full (s := S1x1) arg5.view f5 inb_S1x1_S1x1_0_0).trans h5
  have e6 := (View.readAt_full (s := S2048x1024) arg6.view f6 inb_S2048x1024_S2048x1024_0_0).trans h6
  have e7 := (View.readAt_full (s := S2048x1024) arg7.view f7 inb_S2048x1024_S2048x1024_0_0).trans h7
  have e8 := (View.readAt_full (s := S2048x1024) arg8.view f8 inb_S2048x1024_S2048x1024_0_0).trans h8
  have e9 := (View.readAt_full (s := S1x1024) arg9.view f9 inb_S1x1024_S1x1024_0_0).trans h9
  iapply Hk
  isplitl [H1]
  · iexists _; isplitr; · ipureintro; exact h1
    iexact H1
  isplitl [H2]
  · iexists _; isplitr; · ipureintro; exact h2
    iexact H2
  isplitl [H3]
  · iexists _; isplitr; · ipureintro; exact h3
    iexact H3
  isplitl [H4]
  · iexists _; isplitr; swap; · iexact H4
    ipureintro
    refine (View.read_writes_full (s := S512x1) _ _ _ _ _).trans ?_
    have hc := congr (congr (congr (congr (congrArg (chosen (F := F)) e2) e6) e7) e8) e9
    exact hc
  isplitl [H5]
  · iexists _; isplitr; swap; · iexact H5
    ipureintro
    refine (View.read_writes_full (s := S1x1) _ _ _ _ _).trans ?_
    refine congrArg k0_pay5 ((View.readCov_full (s := S1x1) _ _ _ _ _).trans ?_)
    exact congr (congr (congr (congr (congr (congr (congrArg (counted (F := F)) e2) e6) e7) e8) e9) e3) e5
  isplitl [H6]
  · iexists _; isplitr; · ipureintro; exact h6
    iexact H6
  isplitl [H7]
  · iexists _; isplitr; · ipureintro; exact h7
    iexact H7
  isplitl [H8]
  · iexists _; isplitr; · ipureintro; exact h8
    iexact H8
  iexists _; isplitr; · ipureintro; exact h9
  iexact H9

end Cert.KernelIdeal.Val

end
-- ==== Proof.Launch.lean ====
/- The launch: what each buffer holds point by point, the proof that the body keeps it, and the run of the whole program. -/
module

public import proofs.«01_k».proof.Proof.ScoreRun
public import Idealize.ShloMosaic.Lib.Claim

@[expose] public section

set_option maxRecDepth 16384

noncomputable section

namespace Cert.KernelIdeal.Val

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the buffers hold -/

/-- The grid's point `n`. -/
abbrev pt (n : ℕ) (h : n < 16) : Fin cfg0.N := ⟨n, lt_of_lt_of_eq h N_0.symm⟩

/-- The preparing point that stores row `y 0` of the mean memory, -/
abbrev rowPoint (y : S2048x1024.Idx) : Fin cfg0.N :=
  pt ((y 0).val / 256) (by have : (y 0).val < 2048 := (y 0).isLt; omega)

/-- and the place of that row among the 256 the point stores. -/
abbrev rowPlace (y : S2048x1024.Idx) : S256x1024.Idx :=
  (fun a : Fin 2 => match a with
    | ⟨0, _⟩ => ⟨(y 0).val % 256, Nat.mod_lt _ (by decide)⟩
    | ⟨1, _⟩ => ⟨(y 1).val, (y 1).isLt⟩ : (a : Fin 2) → Fin (![256, 1024] a))

/-- The leading part of the mean memory, as the eight preparing points together store it. -/
def part1 (c : Dev nD) : Vec F S2048x1024 .bf16 := fun y => k0_pay10 (iblk m c 0 (rowPoint y)) (rowPlace y)
/-- The middle part. -/
def part2 (c : Dev nD) : Vec F S2048x1024 .bf16 := fun y => k0_pay11 (iblk m c 0 (rowPoint y)) (rowPlace y)
/-- The last part. -/
def part3 (c : Dev nD) : Vec F S2048x1024 .bf16 := fun y => k0_pay12 (iblk m c 0 (rowPoint y)) (rowPlace y)

/-- The squared norms before point `n`. -/
def norms (c : Dev nD) : ℕ → Vec F S1x1024 .f32
  | 0 => k0_pay13
  | n + 1 => if h : n < 8 then k0_pay1 (k0_pay14 (iblk m c 0 (pt n (by omega))) (norms c n)) else norms c n

/-- The class numbers chosen at point `t`. -/
def best (c : Dev nD) (t : Fin cfg0.N) : IVec S512x1 32 :=
  chosen (iblk m c 1 t) (part1 m c) (part2 m c) (part3 m c) (norms m c 8)

/-- The number of hits before point `n`. -/
def hits (c : Dev nD) : ℕ → Vec F S1x1 .f32
  | 0 => k0_pay3
  | n + 1 => if h : 8 ≤ n ∧ n < 16 then
      counted (iblk m c 1 (pt n h.2)) (part1 m c) (part2 m c) (part3 m c) (norms m c 8) (iblk m c 2 (pt n h.2)) (hits c n)
    else k0_pay3

theorem norms_prep (c : Dev nD) (t : Fin cfg0.N) (h : t.val < 8) :
    norms m c (t.val + 1) = k0_pay1 (k0_pay14 (iblk m c 0 t) (norms m c t.val)) := dif_pos h

theorem norms_done (c : Dev nD) : ∀ n, 8 ≤ n → norms m c n = norms m c 8
  | 0, h => absurd h (by decide)
  | n + 1, h => by
    by_cases h8 : n < 8
    · rw [show n + 1 = 8 by omega]
    · exact (dif_neg h8).trans (norms_done c n (by omega))

theorem hits_zero (c : Dev nD) : hits m c 8 = k0_pay3 := dif_neg (fun h => absurd h.1 (by decide))

theorem hits_score (c : Dev nD) (t : Fin cfg0.N) (h : 8 ≤ t.val) :
    hits m c (t.val + 1)
      = counted (iblk m c 1 t) (part1 m c) (part2 m c) (part3 m c) (norms m c 8) (iblk m c 2 t) (hits m c t.val) :=
  dif_pos ⟨h, lt_of_lt_of_eq t.isLt N_0⟩

/-- What the count's buffer holds after point `t`. -/
def countAfter (c : Dev nD) (t : Fin cfg0.N) : Vec F S1x1 .f32 :=
  if t.val = 15 then k0_pay5 (hits m c 16) else hits m c (t.val + 1)

/-! ## The rows of the scratch buffers -/

/-- Before point `n`, the rows below `256 n` of the three large scratch buffers are the mean memory's, and from the second
    point on the last scratch buffer holds the squared norms so far. -/
def Holds (c : Dev nD) (n : ℕ) (d0 d1 d2 : Vec F S2048x1024 .bf16) (d3 : Vec F S1x1024 .f32) : Prop :=
  ((∀ y : S2048x1024.Idx, (y 0).val < 256 * n → d0 y = part1 m c y) ∧ (∀ y : S2048x1024.Idx, (y 0).val < 256 * n → d1 y = part2 m c y)
    ∧ (∀ y : S2048x1024.Idx, (y 0).val < 256 * n → d2 y = part3 m c y)) ∧ (n ≠ 0 → d3 = norms m c n)

/-- A preparing point's store extends the filled rows by its own 256. -/
theorem put_rows (t : Fin cfg0.N) (h : t.val < 8) (g : Fin cfg0.N → FVec F S256x1024 .bf16) (d : Vec F S2048x1024 .bf16)
    (hd : ∀ y : S2048x1024.Idx, (y 0).val < 256 * t.val → d y = g (rowPoint y) (rowPlace y)) (y : S2048x1024.Idx)
    (hy : (y 0).val < 256 * (t.val + 1)) : putRows (grid0.coords t) d (g t) y = g (rowPoint y) (rowPlace y) := by
  have hoff := off_eq t h
  have h1 : (y 1).val < 1024 := (y 1).isLt
  unfold putRows
  rw [hoff]
  by_cases hm : ∀ a : Fin 2, (![256 * t.val, 0] : Fin 2 → ℕ) a ≤ (y a).val ∧ (y a).val < (![256 * t.val, 0] : Fin 2 → ℕ) a + S256x1024.size a
  · have h0 : 256 * t.val ≤ (y 0).val := (hm 0).1
    have ht : rowPoint y = t := Fin.ext (by show (y 0).val / 256 = t.val; omega)
    rw [ht]
    refine (dif_pos hm).trans (congrArg (g t) (funext fun a => Fin.ext ?_))
    match a with
    | ⟨0, _⟩ => show (y 0).val - 256 * t.val = (y 0).val % 256; omega
    | ⟨1, _⟩ => show (y 1).val - 0 = (y 1).val; omega
  · refine (dif_neg hm).trans (hd y ?_)
    by_contra hc
    refine hm (Fin.forall_fin_two.mpr ⟨⟨?_, ?_⟩, ⟨?_, ?_⟩⟩)
    · show 256 * t.val ≤ (y 0).val; omega
    · show (y 0).val < 256 * t.val + 256; omega
    · exact Nat.zero_le _
    · show (y 1).val < 0 + 1024; omega

/-- The first point leaves what is held before the second. -/
theorem holds_step (c : Dev nD) (t : Fin cfg0.N) (h : t.val < 8) (d0 d1 d2 : Vec F S2048x1024 .bf16) (d3 n3 : Vec F S1x1024 .f32)
    (hd : Holds m c t.val d0 d1 d2 d3) (hn : n3 = norms m c t.val) :
    Holds m c (t.val + 1) (putRows (grid0.coords t) d0 (k0_pay10 (iblk m c 0 t))) (putRows (grid0.coords t) d1 (k0_pay11 (iblk m c 0 t)))
      (putRows (grid0.coords t) d2 (k0_pay12 (iblk m c 0 t))) (k0_pay1 (k0_pay14 (iblk m c 0 t) n3)) :=
  ⟨⟨put_rows t h (fun t => k0_pay10 (iblk m c 0 t)) d0 hd.1.1, put_rows t h (fun t => k0_pay11 (iblk m c 0 t)) d1 hd.1.2.1,
    put_rows t h (fun t => k0_pay12 (iblk m c 0 t)) d2 hd.1.2.2⟩, fun _ => by rw [norms_prep m c t h, hn]⟩

/-- Once all preparing points have run, the scratch buffers hold the three parts and the squared norms. -/
theorem holds_done (c : Dev nD) (n : ℕ) (h : 8 ≤ n) (d0 d1 d2 : Vec F S2048x1024 .bf16) (d3 : Vec F S1x1024 .f32)
    (hd : Holds m c n d0 d1 d2 d3) : d0 = part1 m c ∧ d1 = part2 m c ∧ d2 = part3 m c ∧ d3 = norms m c 8 := by
  have hy : ∀ y : S2048x1024.Idx, (y 0).val < 256 * n := fun y => by
    have : (y 0).val < 2048 := (y 0).isLt
    omega
  exact ⟨funext fun y => hd.1.1 y (hy y), funext fun y => hd.1.2.1 y (hy y), funext fun y => hd.1.2.2 y (hy y),
    (hd.2 (by omega)).trans (norms_done m c n h)⟩

theorem holds_all (c : Dev nD) (n : ℕ) (h : 8 ≤ n) : Holds m c n (part1 m c) (part2 m c) (part3 m c) (norms m c 8) :=
  ⟨⟨fun _ _ => rfl, fun _ _ => rfl, fun _ _ => rfl⟩, fun _ => (norms_done m c n h).symm⟩

/-- The scratch buffers before point `n`. -/
def inv (c : Dev nD) (n : ℕ) : sProp 𝕄 :=
  iprop((∃ d0 d1 d2 d3, ⌜Holds m c n d0 d1 d2 d3⌝ ∗ owns (c : Thread nD τ) sc0 fullShare d0 ∗ owns (c : Thread nD τ) sc1 fullShare d1
      ∗ owns (c : Thread nD τ) sc2 fullShare d2 ∗ owns (c : Thread nD τ) sc3 fullShare d3)
    ∗ (∃ r, prngReg c r))

/-! ## The proof data -/

/-- The arrays as the region finds them; after point `t` each input's buffer at its block, the class numbers chosen there,
    the count so far; the scratch buffers as `inv` says; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => best m c t
    | ⟨4, _⟩ => countAfter m c t
  Φ t := inv m c t.val
  q _ := fullShare
  owed _ := 0

theorem A_eq (c : Dev nD) (w : Fin cfg0.W) : (dats m 0 c).A w = V m c (Pipeline.arrRef spec0 w) := by dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = best m c t := by dsimp only [dats]
theorem after4 (c : Dev nD) (t : Fin cfg0.N) : (dats m 0 c).after 4 t = countAfter m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-- At points 9 to 15 the count's buffer holds the hits so far. -/
theorem before4 (c : Dev nD) (t : Fin cfg0.N) (h : 9 ≤ t.val) (d) : (dats m 0 c).before 4 t d = hits m c t.val := by
  have hN : t.val < 16 := lt_of_lt_of_eq t.isLt N_0
  have hfr : cfg0.fresh 4 t.val = false := by
    rcases fresh4 t.val t.isLt.le with h' | h'
    · rw [h']; exact decide_eq_false (by omega)
    · omega
  refine ((dats m 0 c).before_out_traj 4 rfl (fun _ _ => rfl) (fun s hs hi hf => ?_) t.val t rfl d).trans ?_
  · exfalso
    rw [idle4 s, decide_eq_true_eq] at hi
    rcases fresh4 s.val s.isLt.le with h' | h'
    · rw [h', decide_eq_false_iff_not] at hf; omega
    · omega
  · rw [if_neg (by rw [hfr]; exact Bool.false_ne_true), after4]
    refine (if_neg ?_).trans (congrArg (hits m c) ?_)
    · show ¬ t.val - 1 = 15; omega
    · show t.val - 1 + 1 = t.val; omega

/-! ## What the body must leave -/

theorem leaves0 (c : Dev nD) (t : Fin cfg0.N) : (dats m 0 c).leavesExact 0 t = owns (c : Thread nD τ) (ms0 t) fullShare (iblk m c 0 t) := by
  unfold Dat.leavesExact; rw [show cfg0.idle 0 (grid0.coords t) = false from rfl, after0]
theorem leaves1 (c : Dev nD) (t : Fin cfg0.N) : (dats m 0 c).leavesExact 1 t = owns (c : Thread nD τ) (ms1 t) fullShare (iblk m c 1 t) := by
  unfold Dat.leavesExact; rw [show cfg0.idle 1 (grid0.coords t) = false from rfl, after1]
theorem leaves2 (c : Dev nD) (t : Fin cfg0.N) : (dats m 0 c).leavesExact 2 t = owns (c : Thread nD τ) (ms2 t) fullShare (iblk m c 2 t) := by
  unfold Dat.leavesExact; rw [show cfg0.idle 2 (grid0.coords t) = false from rfl, after2]

theorem leaves3_prep (c : Dev nD) (t : Fin cfg0.N) (h : t.val < 8) :
    (dats m 0 c).leavesExact 3 t = iprop(∃ d, owns (c : Thread nD τ) (ms3 t) fullShare ((dats m 0 c).before 3 t d)) :=
  (dats m 0 c).leavesExact_idle 3 t ((idle3 t).trans (decide_eq_true h)) ((flush3 t).trans (decide_eq_false (by omega)))
theorem leaves4_prep (c : Dev nD) (t : Fin cfg0.N) (h : t.val < 8) :
    (dats m 0 c).leavesExact 4 t = iprop(∃ d, owns (c : Thread nD τ) (ms4 t) fullShare ((dats m 0 c).before 4 t d)) :=
  (dats m 0 c).leavesExact_idle 4 t ((idle4 t).trans (decide_eq_true h)) ((flush4 t).trans (decide_eq_false (by omega)))

theorem leaves3_score (c : Dev nD) (t : Fin cfg0.N) (h : 8 ≤ t.val) :
    (dats m 0 c).leavesExact 3 t = owns (c : Thread nD τ) (ms3 t) fullShare (best m c t) := by
  unfold Dat.leavesExact
  rw [show cfg0.idle 3 (cfg0.grid.coords t) = false from (idle3 t).trans (decide_eq_false (by omega)), after3]
theorem leaves4_score (c : Dev nD) (t : Fin cfg0.N) (h : 8 ≤ t.val) :
    (dats m 0 c).leavesExact 4 t = owns (c : Thread nD τ) (ms4 t) fullShare (countAfter m c t) := by
  unfold Dat.leavesExact
  rw [show cfg0.idle 4 (cfg0.grid.coords t) = false from (idle4 t).trans (decide_eq_false (by omega)), after4]

/-- What the body is called with at point `t`, -/
def bodyPre (c : Dev nD) (t : Fin cfg0.N) : sProp 𝕄 :=
  iprop(inv m c t.val ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop(inv m c (t.val + 1) ∗ (dats m 0 c).owesAt () t.castSucc
    ∗ (dats m 0 c).leavesExact 0 t ∗ (dats m 0 c).leavesExact 1 t ∗ (dats m 0 c).leavesExact 2 t
    ∗ (dats m 0 c).leavesExact 3 t ∗ (dats m 0 c).leavesExact 4 t)

set_option maxHeartbeats 2000000 in
/-- The first point. -/
theorem sound_first (c : Dev nD) (t : Fin cfg0.N) (h : t.val < 8) (hz : t.val = 0) :
    bodyPre m c t ⊢ wp frame (wpE (defs₀ (F := F)) Variants.none c none) Set.univ (bodyAt0 t) (fun _ => bodyPost m c t) := by
  have hN : t.val < 16 := lt_of_lt_of_eq t.isLt N_0
  unfold bodyPre bodyPost bodyAt0
  rw [leaves0, leaves1, leaves2, leaves3_prep m c t h, leaves4_prep m c t h]
  simp only [before0, before1, before2]
  unfold inv
  iintro ⟨⟨⟨%s0, %s1, %s2, %s3, %hs, HS0, HS1, HS2, HS3⟩, Hg⟩, Ho, ⟨%d0, H0⟩, ⟨%d1, H1⟩, ⟨%d2, H2⟩, ⟨%d3, H3⟩, ⟨%d4, H4⟩⟩
  iapply (run_first c (grid0.coords t) _ _ _ _ _ _ _ _ _ _ _ _ _ _ _ _ _ _ ((prep_iff t).mpr h) ((first_iff t).mpr hz) (fun h' => absurd ((score_iff t).mp h') (by omega)) (iblk m c 0 t) (iblk m c 1 t) (iblk m c 2 t) _ _ _ _ _ _ Set.univ _)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HS2]; · iexact HS2
  isplitl [HS3]; · iexact HS3
  iintro ⟨H0, H1, H2, H3, H4, HS0, HS1, HS2, HS3⟩
  isplitl [HS0 HS1 HS2 HS3 Hg]
  · isplitl [HS0 HS1 HS2 HS3]
    · iexists _, _, _, _
      isplitr; swap
      · isplitl [HS0]; · iexact HS0
        isplitl [HS1]; · iexact HS1
        isplitl [HS2]; · iexact HS2
        iexact HS3
      ipureintro
      exact holds_step m c t h _ _ _ _ _ hs (by rw [hz]; rfl)
    iexact Hg
  isplitl [Ho]; · iexact Ho
  isplitl [H0]; · iexact H0
  isplitl [H1]; · iexact H1
  isplitl [H2]; · iexact H2
  isplitl [H3]; · iexists _; iexact H3
  iexists _; iexact H4

set_option maxHeartbeats 2000000 in
/-- Points 1 to 7. -/
theorem sound_prep (c : Dev nD) (t : Fin cfg0.N) (h : t.val < 8) (hz : t.val ≠ 0) :
    bodyPre m c t ⊢ wp frame (wpE (defs₀ (F := F)) Variants.none c none) Set.univ (bodyAt0 t) (fun _ => bodyPost m c t) := by
  have hN : t.val < 16 := lt_of_lt_of_eq t.isLt N_0
  unfold bodyPre bodyPost bodyAt0
  rw [leaves0, leaves1, leaves2, leaves3_prep m c t h, leaves4_prep m c t h]
  simp only [before0, before1, before2]
  unfold inv
  iintro ⟨⟨⟨%s0, %s1, %s2, %s3, %hs, HS0, HS1, HS2, HS3⟩, Hg⟩, Ho, ⟨%d0, H0⟩, ⟨%d1, H1⟩, ⟨%d2, H2⟩, ⟨%d3, H3⟩, ⟨%d4, H4⟩⟩
  iapply (run_prep c (grid0.coords t) _ _ _ _ _ _ _ _ _ _ _ _ _ _ _ _ _ _ ((prep_iff t).mpr h) (fun h' => hz ((first_iff t).mp h')) (fun h' => absurd ((score_iff t).mp h') (by omega)) (iblk m c 0 t) (iblk m c 1 t) (iblk m c 2 t) _ _ _ _ _ _ Set.univ _)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HS2]; · iexact HS2
  isplitl [HS3]; · iexact HS3
  iintro ⟨H0, H1, H2, H3, H4, HS0, HS1, HS2, HS3⟩
  isplitl [HS0 HS1 HS2 HS3 Hg]
  · isplitl [HS0 HS1 HS2 HS3]
    · iexists _, _, _, _
      isplitr; swap
      · isplitl [HS0]; · iexact HS0
        isplitl [HS1]; · iexact HS1
        isplitl [HS2]; · iexact HS2
        iexact HS3
      ipureintro
      exact holds_step m c t h _ _ _ _ _ hs (hs.2 hz)
    iexact Hg
  isplitl [Ho]; · iexact Ho
  isplitl [H0]; · iexact H0
  isplitl [H1]; · iexact H1
  isplitl [H2]; · iexact H2
  isplitl [H3]; · iexists _; iexact H3
  iexists _; iexact H4

set_option maxHeartbeats 2000000 in
/-- Point 8. -/
theorem sound_zero (c : Dev nD) (t : Fin cfg0.N) (h : 8 ≤ t.val) (hz : t.val = 8) :
    bodyPre m c t ⊢ wp frame (wpE (defs₀ (F := F)) Variants.none c none) Set.univ (bodyAt0 t) (fun _ => bodyPost m c t) := by
  have hN : t.val < 16 := lt_of_lt_of_eq t.isLt N_0
  unfold bodyPre bodyPost bodyAt0
  rw [leaves0, leaves1, leaves2, leaves3_score m c t h, leaves4_score m c t h]
  simp only [before0, before1, before2]
  unfold inv
  iintro ⟨⟨⟨%s0, %s1, %s2, %s3, %hs, HS0, HS1, HS2, HS3⟩, Hg⟩, Ho, ⟨%d0, H0⟩, ⟨%d1, H1⟩, ⟨%d2, H2⟩, ⟨%d3, H3⟩, ⟨%d4, H4⟩⟩
  obtain ⟨rfl, rfl, rfl, rfl⟩ := holds_done m c t.val h s0 s1 s2 s3 hs
  iapply (run_zero c (grid0.coords t) _ _ _ _ _ _ _ _ _ _ _ _ _ _ _ _ _ _ (fun h' => absurd ((prep_iff t).mp h') (by omega)) ((score_iff t).mpr h) ((zero_iff t).mpr hz) (fun h' => absurd ((last_iff t).mp h') (by omega)) (iblk m c 0 t) (iblk m c 1 t) (iblk m c 2 t) _ _ _ _ _ _ Set.univ _)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HS2]; · iexact HS2
  isplitl [HS3]; · iexact HS3
  iintro ⟨H0, H1, H2, H3, H4, HS0, HS1, HS2, HS3⟩
  isplitl [HS0 HS1 HS2 HS3 Hg]
  · isplitl [HS0 HS1 HS2 HS3]
    · iexists _, _, _, _
      isplitr; swap
      · isplitl [HS0]; · iexact HS0
        isplitl [HS1]; · iexact HS1
        isplitl [HS2]; · iexact HS2
        iexact HS3
      ipureintro
      exact holds_all m c _ (by omega)
    iexact Hg
  isplitl [Ho]; · iexact Ho
  isplitl [H0]; · iexact H0
  isplitl [H1]; · iexact H1
  isplitl [H2]; · iexact H2
  isplitl [H3]; · iexact H3
  rw [show countAfter m c t = hits m c (t.val + 1) from if_neg (by omega), hits_score m c t h, show hits m c t.val = k0_pay3 by rw [hz, hits_zero]]
  iexact H4

set_option maxHeartbeats 2000000 in
/-- Points 9 to 14. -/
theorem sound_score (c : Dev nD) (t : Fin cfg0.N) (h : 8 ≤ t.val) (hz : t.val ≠ 8) (hl : t.val ≠ 15) :
    bodyPre m c t ⊢ wp frame (wpE (defs₀ (F := F)) Variants.none c none) Set.univ (bodyAt0 t) (fun _ => bodyPost m c t) := by
  have hN : t.val < 16 := lt_of_lt_of_eq t.isLt N_0
  unfold bodyPre bodyPost bodyAt0
  rw [leaves0, leaves1, leaves2, leaves3_score m c t h, leaves4_score m c t h]
  simp only [before0, before1, before2, before4 m c t (by omega)]
  unfold inv
  iintro ⟨⟨⟨%s0, %s1, %s2, %s3, %hs, HS0, HS1, HS2, HS3⟩, Hg⟩, Ho, ⟨%d0, H0⟩, ⟨%d1, H1⟩, ⟨%d2, H2⟩, ⟨%d3, H3⟩, ⟨%d4, H4⟩⟩
  obtain ⟨rfl, rfl, rfl, rfl⟩ := holds_done m c t.val h s0 s1 s2 s3 hs
  iapply (run_score c (grid0.coords t) _ _ _ _ _ _ _ _ _ _ _ _ _ _ _ _ _ _ (fun h' => absurd ((prep_iff t).mp h') (by omega)) ((score_iff t).mpr h) (fun h' => absurd ((zero_iff t).mp h') (by omega)) (fun h' => absurd ((last_iff t).mp h') (by omega)) (iblk m c 0 t) (iblk m c 1 t) (iblk m c 2 t) _ _ _ _ _ _ Set.univ _)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HS2]; · iexact HS2
  isplitl [HS3]; · iexact HS3
  iintro ⟨H0, H1, H2, H3, H4, HS0, HS1, HS2, HS3⟩
  isplitl [HS0 HS1 HS2 HS3 Hg]
  · isplitl [HS0 HS1 HS2 HS3]
    · iexists _, _, _, _
      isplitr; swap
      · isplitl [HS0]; · iexact HS0
        isplitl [HS1]; · iexact HS1
        isplitl [HS2]; · iexact HS2
        iexact HS3
      ipureintro
      exact holds_all m c _ (by omega)
    iexact Hg
  isplitl [Ho]; · iexact Ho
  isplitl [H0]; · iexact H0
  isplitl [H1]; · iexact H1
  isplitl [H2]; · iexact H2
  isplitl [H3]; · iexact H3
  rw [show countAfter m c t = hits m c (t.val + 1) from if_neg hl, hits_score m c t h]
  iexact H4

set_option maxHeartbeats 2000000 in
/-- Point 15. -/
theorem sound_last (c : Dev nD) (t : Fin cfg0.N) (h : 8 ≤ t.val) (hl : t.val = 15) :
    bodyPre m c t ⊢ wp frame (wpE (defs₀ (F := F)) Variants.none c none) Set.univ (bodyAt0 t) (fun _ => bodyPost m c t) := by
  have hN : t.val < 16 := lt_of_lt_of_eq t.isLt N_0
  unfold bodyPre bodyPost bodyAt0
  rw [leaves0, leaves1, leaves2, leaves3_score m c t h, leaves4_score m c t h]
  simp only [before0, before1, before2, before4 m c t (by omega)]
  unfold inv
  iintro ⟨⟨⟨%s0, %s1, %s2, %s3, %hs, HS0, HS1, HS2, HS3⟩, Hg⟩, Ho, ⟨%d0, H0⟩, ⟨%d1, H1⟩, ⟨%d2, H2⟩, ⟨%d3, H3⟩, ⟨%d4, H4⟩⟩
  obtain ⟨rfl, rfl, rfl, rfl⟩ := holds_done m c t.val h s0 s1 s2 s3 hs
  iapply (run_last c (grid0.coords t) _ _ _ _ _ _ _ _ _ _ _ _ _ _ _ _ _ _ (fun h' => absurd ((prep_iff t).mp h') (by omega)) ((score_iff t).mpr h) (fun h' => absurd ((zero_iff t).mp h') (by omega)) ((last_iff t).mpr hl) (iblk m c 0 t) (iblk m c 1 t) (iblk m c 2 t) _ _ _ _ _ _ Set.univ _)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HS2]; · iexact HS2
  isplitl [HS3]; · iexact HS3
  iintro ⟨H0, H1, H2, H3, H4, HS0, HS1, HS2, HS3⟩
  isplitl [HS0 HS1 HS2 HS3 Hg]
  · isplitl [HS0 HS1 HS2 HS3]
    · iexists _, _, _, _
      isplitr; swap
      · isplitl [HS0]; · iexact HS0
        isplitl [HS1]; · iexact HS1
        isplitl [HS2]; · iexact HS2
        iexact HS3
      ipureintro
      exact holds_all m c _ (by omega)
    iexact Hg
  isplitl [Ho]; · iexact Ho
  isplitl [H0]; · iexact H0
  isplitl [H1]; · iexact H1
  isplitl [H2]; · iexact H2
  isplitl [H3]; · iexact H3
  rw [show countAfter m c t = k0_pay5 (hits m c (t.val + 1)) by rw [hl]; exact if_pos hl, hits_score m c t h]
  iexact H4

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h : t.val < 8
  · by_cases hz : t.val = 0
    · exact sound_first m c t h hz
    · exact sound_prep m c t h hz
  · by_cases hz : t.val = 8
    · exact sound_zero m c t (by omega) hz
    · by_cases hl : t.val = 15
      · exact sound_last m c t (by omega) hl
      · exact sound_score m c t (by omega) hz hl

theorem row_body (t : Fin cfg0.N) : defs₀ (F := F) .tc cfg0.body (cfg0.bodyArgs t (cfg0.slots t)) = bodyAt0 t := by
  unfold defs₀; rw [Defs.onTc_tc]

/-- The body keeps the proof data, at every point. -/
theorem body_obligation (c : Dev nD) : BodyObligation (dats (F := F) m 0 c) (defs₀ (F := F)) Variants.none () Set.univ := fun t => by
  rw [bigSep_W0, bigSep_W0, row_body]
  exact triple_restated (sound_body m c t) rfl .rfl fun _ => .rfl

/-- What the launch hands the region is the invariant before the first point, -/
theorem launch_in (c : Dev nD) : Pipeline.ΦA spec0 c ⊢ (dats m 0 c).Φ 0 := by
  rw [show (dats m 0 c).Φ 0 = inv m c 0 from rfl, launchRest_eq]
  unfold inv
  iintro ⟨⟨⟨%d0, H0⟩, ⟨%d1, H1⟩, ⟨%d2, H2⟩, ⟨%d3, H3⟩⟩, Hg⟩
  isplitl [H0 H1 H2 H3]
  · iexists _, _, _, _
    isplitr; swap
    · isplitl [H0]; · iexact H0
      isplitl [H1]; · iexact H1
      isplitl [H2]; · iexact H2
      iexact H3
    ipureintro
    exact ⟨⟨fun _ h => absurd h (by omega), fun _ h => absurd h (by omega), fun _ h => absurd h (by omega)⟩, fun h => absurd rfl h⟩
  iexact Hg

/-- and the invariant after the last point gives it back. -/
theorem launch_out (c : Dev nD) : (dats m 0 c).Φ (Fin.last cfg0.N) ⊢ Pipeline.ΦA spec0 c := by
  rw [show (dats m 0 c).Φ (Fin.last cfg0.N) = inv m c (Fin.last cfg0.N).val from rfl, launchRest_eq]
  unfold inv
  iintro ⟨⟨%d0, %d1, %d2, %d3, -, H0, H1, H2, H3⟩, Hg⟩
  isplitl [H0 H1 H2 H3]
  · isplitl [H0]; · iexists _; iexact H0
    isplitl [H1]; · iexists _; iexact H1
    isplitl [H2]; · iexists _; iexact H2
    iexists _; iexact H3
  iexact Hg

set_option backward.isDefEq.respectTransparency.types false in
set_option maxHeartbeats 800000 in
/-- The run of the whole program: it ends, every array of the pipeline and every other buffer holding what the proof data
    and the host's operations say, every semaphore counter at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := launch_in m) (hout := launch_out m)

/-- The frame: the program ends with its argument arrays as they were and every semaphore counter at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.Val

end
-- ==== Proof.Arrays.lean ====
/- What the launch's blocks and arrays hold, in terms of the program's arguments. -/
module

public import proofs.«01_k».proof.Proof.Launch
public import Idealize.ShloMosaic.Lib.Pointwise
public import Idealize.ShloMosaic.Lib.Pipeline.Value

@[expose] public section

set_option maxRecDepth 16384

noncomputable section

namespace Cert.KernelIdeal.Val

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Grid)

variable (m : (ℓ : Loc nD τ sig) → Buf (Elt F) ℓ) (ρ : Dev nD → PrngReg)

/-! ## The operands' blocks, entry by entry -/

/-- The transposed memory: the array the launch finds as its first operand. -/
theorem V_main_v0 (c : Dev nD) :
    V m c main_v0 = transpose S10x1000x2048 [1, 0, 2] (m ((c : Thread nD τ).loc main_arg2)) transposes_S1000x10x2048_S10x1000x2048_1_0_2 := by
  show StableHlo.after ([hostOps0].flatten) _ (Proc.devRef .tc main_v0) = _
  simp only [hostOps0, List.flatten_cons, List.flatten_nil, List.append_nil]
  after_results

/-- Every window's block index, point by point. -/
theorem index_tbl : ∀ t : Fin cfg0.N,
    (win0_0.index t 0 = 0 ∧ win0_0.index t 1 = 0 ∧ win0_0.index t 2 = min t.val 7)
      ∧ (win0_1.index t 0 = t.val - 8 ∧ win0_1.index t 1 = 0) ∧ (win0_2.index t 0 = t.val - 8 ∧ win0_2.index t 1 = 0)
      ∧ (win0_3.index t 0 = t.val - 8 ∧ win0_3.index t 1 = 0) ∧ (win0_4.index t 0 = 0 ∧ win0_4.index t 1 = 0) := by
  decide +kernel

/-- Point `t`'s block of the transposed memory is the memory's columns from `256 t` on. -/
theorem iblk0_apply (c : Dev nD) (t : Fin cfg0.N) (h : t.val < 8) (k : Fin 10) (n : Fin 1000) (d : Fin 256) (e : Fin 2048)
    (he : e.val = 256 * t.val + d.val) :
    iblk m c 0 t (ix3 k n d) = m ((c : Thread nD τ).loc main_arg2) (ix3 n k e) := by
  obtain ⟨⟨h0, h1, h2⟩, -⟩ := index_tbl t
  show V m c main_v0 ((win0_0.rect t).emb (ix3 k n d)) = _
  rw [V_main_v0]
  refine transpose_apply _ _ _ _ _ fun b => ?_
  match b with
  | ⟨0, _⟩ => exact ((win0_0.rect_emb_val t (ix3 k n d) 0).trans (by rw [h0]; show 0 * _ + k.val = k.val; omega)).symm
  | ⟨1, _⟩ => exact ((win0_0.rect_emb_val t (ix3 k n d) 1).trans (by rw [h1]; show 0 * _ + n.val = n.val; omega)).symm
  | ⟨2, _⟩ => exact ((win0_0.rect_emb_val t (ix3 k n d) 2).trans (by rw [h2]; show min t.val 7 * 256 + d.val = e.val; omega)).symm

/-- Scoring point `t`'s block of the instances is the rows from `512 (t - 8)` on. -/
theorem iblk1_apply (c : Dev nD) (t : Fin cfg0.N) (h : 8 ≤ t.val) (r : Fin 512) (d : Fin 2048) (b : Fin 4096)
    (hb : b.val = 512 * (t.val - 8) + r.val) :
    iblk m c 1 t (ix2 r d) = m ((c : Thread nD τ).loc main_arg0) (ix2 b d) := by
  obtain ⟨-, ⟨h0, h1⟩, -⟩ := index_tbl t
  show V m c main_arg0 ((win0_1.rect t).emb (ix2 r d)) = _
  rw [V_main_arg0]
  refine congrArg _ (Shape.idx_ext₂ ?_ ?_)
  · exact (win0_1.rect_emb_val t (ix2 r d) 0).trans (by rw [h0]; show (t.val - 8) * 512 + r.val = b.val; omega)
  · exact (win0_1.rect_emb_val t (ix2 r d) 1).trans (by rw [h1]; show 0 * _ + d.val = d.val; omega)

/-- and so is its block of the labels. -/
theorem iblk2_apply (c : Dev nD) (t : Fin cfg0.N) (h : 8 ≤ t.val) (r : Fin 512) (d : Fin 1) (b : Fin 4096)
    (hb : b.val = 512 * (t.val - 8) + r.val) :
    iblk m c 2 t (ix2 r d) = m ((c : Thread nD τ).loc main_arg1) (ix2 b d) := by
  obtain ⟨-, -, ⟨h0, h1⟩, -⟩ := index_tbl t
  show V m c main_arg1 ((win0_2.rect t).emb (ix2 r d)) = _
  rw [V_main_arg1]
  refine congrArg _ (Shape.idx_ext₂ ?_ ?_)
  · exact (win0_2.rect_emb_val t (ix2 r d) 0).trans (by rw [h0]; show (t.val - 8) * 512 + r.val = b.val; omega)
  · exact (win0_2.rect_emb_val t (ix2 r d) 1).trans (by rw [h1]; show 0 * _ + d.val = d.val; omega)

/-! ## The result arrays -/

/-- The scoring point that chooses for row `b`. -/
abbrev scorePoint (b : Fin 4096) : Fin cfg0.N := pt (8 + b.val / 512) (by omega)

/-- The kernel's first result: row `b` is row `b % 512` of what its scoring point chose. -/
def kcls (c : Dev nD) : IVec S4096x1 32 := fun i =>
  best m c (scorePoint (i 0)) (ix2 ⟨(i 0).val % 512, Nat.mod_lt _ (by decide)⟩ ⟨(i 1).val, (i 1).isLt⟩)

/-- The kernel's count of hits scaled, before it is reshaped to the second result. -/
def kacc (c : Dev nD) : Vec F S1x1 .f32 := k0_pay5 (hits m c 16)

/-- What a scoring point writes back is its block of `kcls`. -/
theorem flushed3_eq (c : Dev nD) (t : Fin cfg0.N) (hf : (cfg0.win 3).flush t = true) :
    (dats m 0 c).flushed 3 t = (win0_3.blk t).view.read (Elt F) (kcls m c) := by
  have h8 : 8 ≤ t.val := of_decide_eq_true ((flush3 t).symm.trans hf)
  obtain ⟨-, -, -, ⟨h0, h1⟩, -⟩ := index_tbl t
  show (cfg0.win 3).cut (grid0.coords t) ((dats m 0 c).after 3 t) = _
  rw [after3]
  funext y
  have hy : (y 0).val < 512 := (y 0).isLt
  have ht : t.val < 16 := t.isLt
  show best m c t y = kcls m c ((win0_3.rect t).emb y)
  have e0 : ((win0_3.rect t).emb y 0).val = (t.val - 8) * 512 + (y 0).val := by
    rw [win0_3.rect_emb_val t y 0, h0]; rfl
  have e1 : ((win0_3.rect t).emb y 1).val = (y 1).val := by
    rw [win0_3.rect_emb_val t y 1, h1]; show 0 * _ + (y 1).val = _; omega
  unfold kcls
  have et : scorePoint ((win0_3.rect t).emb y 0) = t := Fin.ext (by show 8 + ((win0_3.rect t).emb y 0).val / 512 = t.val; omega)
  rw [et]
  refine congrArg _ (Shape.idx_ext₂ ?_ ?_)
  · show (y 0).val = ((win0_3.rect t).emb y 0).val % 512; omega
  · exact e1.symm

/-- An index of the first result is in point `t`'s block exactly when its row is one of the block's. -/
theorem mem_blk3 (t : Fin cfg0.N) (i : S4096x1.Idx) :
    i ∈ ((cfg0.win 3).blk t).view.set ↔ (t.val - 8) * 512 ≤ (i 0).val ∧ (i 0).val < (t.val - 8) * 512 + 512 := by
  obtain ⟨-, -, -, ⟨h0, h1⟩, -⟩ := index_tbl t
  show i ∈ ((View.whole main_v1_0).slice (win0_3.rect t)).set ↔ _
  rw [View.set_slice_whole, Rect.mem_set_unit]
  have hi : (i 1).val < 1 := (i 1).isLt
  refine ⟨fun h => ?_, fun h a => ?_⟩
  · have : win0_3.index t 0 * 512 ≤ (i 0).val ∧ (i 0).val < win0_3.index t 0 * 512 + 512 := h 0
    rwa [h0] at this
  · match a with
    | ⟨0, _⟩ => show win0_3.index t 0 * 512 ≤ (i 0).val ∧ (i 0).val < win0_3.index t 0 * 512 + 512
                rwa [h0]
    | ⟨1, _⟩ => show win0_3.index t 1 * 1 ≤ (i 1).val ∧ (i 1).val < win0_3.index t 1 * 1 + 1
                rw [h1]; omega

/-- The first result's array ends at `kcls`: the scoring points' blocks cover it. -/
theorem final3 (c : Dev nD) : (dats m 0 c).arrAt 3 cfg0.N = kcls m c :=
  (dats m 0 c).arrAt_eq_of_cover 3 (kcls m c) (flushed3_eq m c) fun i => by
    have hi : (i 0).val < 4096 := (i 0).isLt
    refine ⟨pt (8 + (i 0).val / 512) (by omega), (flush3 _).trans (decide_eq_true (Nat.le_add_right _ _)), ?_⟩
    refine (mem_blk3 _ i).2 ?_
    show (8 + (i 0).val / 512 - 8) * 512 ≤ (i 0).val ∧ (i 0).val < (8 + (i 0).val / 512 - 8) * 512 + 512
    omega

/-- The count's one index is in every point's block. -/
theorem mem_blk4 (t : Fin cfg0.N) (i : S1x1.Idx) : i ∈ ((cfg0.win 4).blk t).view.set := by
  obtain ⟨-, -, -, -, ⟨h0, h1⟩⟩ := index_tbl t
  show i ∈ ((View.whole main_v1_1).slice (win0_4.rect t)).set
  rw [View.set_slice_whole, Rect.mem_set_unit]
  have hi0 : (i 0).val < 1 := (i 0).isLt
  have hi1 : (i 1).val < 1 := (i 1).isLt
  intro a
  match a with
  | ⟨0, _⟩ => show win0_4.index t 0 * 1 ≤ (i 0).val ∧ (i 0).val < win0_4.index t 0 * 1 + 1
              rw [h0]; omega
  | ⟨1, _⟩ => show win0_4.index t 1 * 1 ≤ (i 1).val ∧ (i 1).val < win0_4.index t 1 * 1 + 1
              rw [h1]; omega

/-- The count's array ends at `kacc`: the last point writes it back. -/
theorem final4 (c : Dev nD) : (dats m 0 c).arrAt 4 cfg0.N = kacc m c :=
  (dats m 0 c).arrAt_eq_of_cover 4 (kacc m c)
    (fun t hf => by
      have h15 : t.val = 15 := of_decide_eq_true ((flush4 t).symm.trans hf)
      show (cfg0.win 4).cut (grid0.coords t) ((dats m 0 c).after 4 t) = _
      rw [after4, countAfter, if_pos h15]
      funext y
      show k0_pay5 (hits m c 16) y = kacc m c ((win0_4.rect t).emb y)
      refine congrArg (k0_pay5 (hits m c 16)) (Shape.idx_ext₂ ?_ ?_)
      · have hy : (y 0).val < 1 := (y 0).isLt
        have he : ((win0_4.rect t).emb y 0).val < 1 := ((win0_4.rect t).emb y 0).isLt
        omega
      · have hy : (y 1).val < 1 := (y 1).isLt
        have he : ((win0_4.rect t).emb y 1).val < 1 := ((win0_4.rect t).emb y 1).isLt
        omega)
    fun i => ⟨pt 15 (by decide), (flush4 _).trans (decide_eq_true rfl), mem_blk4 _ i⟩

/-- The second result: the one entry of the count, as a scalar. -/
theorem tail_main_v2 (c : Dev nD) :
    Pipeline.afterTail₀ cfgs (dats m) 0 (V0 m) [hostOps1] c main_v2 = shapeCast S_ (kacc m c) shapeCasts_S1x1_S_ := by
  unfold Pipeline.afterTail₀
  simp only [hostOps1, List.flatten_cons, List.flatten_nil, List.append_nil]
  after_results
  rw [show Pipeline.withArrays (cfgs 0).spec c (V0 m c) (fun w => (dats m 0 c).arrAt w (cfgs 0).N) (Proc.devRef .tc main_v1_1)
      = (dats m 0 c).arrAt 4 cfg0.N from
    Pipeline.withArrays_arr spec0 launch0.win.arr_inj c (V0 m c) _ 4, final4]
  rfl

/-- The run, read: the program ends with its two results at `kcls` and the scalar of `kacc`, its arguments unchanged. -/
theorem run_results : θ_run defs (onTc (τ := τ) (main (F := F))) ⟨m, fun _ => 0, ρ⟩ fun r => ∀ c : Dev nD,
      r.2.mem ((c : Thread nD τ).loc main_v1_0) = kcls m c
      ∧ r.2.mem ((c : Thread nD τ).loc main_v2) = shapeCast S_ (kacc m c) shapeCasts_S1x1_S_
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h.1 c).1 3).trans (final3 m c),
      ((h.1 c).2 main_v2 (Pipeline.mem_restRefs_of main_v2 (by decide) (by decide))).trans (tail_main_v2 m c),
      ((h.1 c).1 1).trans (((dats m 0 c).arrAt_in 1 rfl _).trans ((A_eq m c 1).trans (V_main_arg0 m c))),
      ((h.1 c).1 2).trans (((dats m 0 c).arrAt_in 2 rfl _).trans ((A_eq m c 2).trans (V_main_arg1 m c))),
      ((h.1 c).2 main_arg2 (Pipeline.mem_restRefs_of main_arg2 (by decide) (by decide))).trans (W_main_arg2 m (dats m) c)⟩)
    (run_main m ρ)

end Cert.KernelIdeal.Val

end
-- ==== Proof.Nearest.lean ====
/- The mathematics both programs compute, over the real numbers: the squared distance of an instance to a class, the score
   that orders the classes the same way, and the first class of least value. -/
module

public import Idealize.ShloMosaic.Lib.IdealHost

@[expose] public section

noncomputable section

namespace Cert.Nearest

open Idealize.ShloMosaic

/-! ## Constants -/

/-- The word of the number of slots denotes ten, -/
theorem word_ten : Ideal.ofBits .f32 0x41200000#32 = ((10 : ℝ) : EReal) := by
  simp [Ideal.ofBits, Ideal.ieee, -EReal.coe_mul]; norm_num

/-- the doubling factor two, -/
theorem word_two : Ideal.ofBits .f32 0x40000000#32 = ((2 : ℝ) : EReal) := by
  simp [Ideal.ofBits, Ideal.ieee, -EReal.coe_mul]; norm_num

/-- the filler index 1024, -/
theorem word_filler : Ideal.ofBits .f32 0x44800000#32 = ((1024 : ℝ) : EReal) := by
  simp [Ideal.ofBits, Ideal.ieee, -EReal.coe_mul]; norm_num

/-- the batch size 4096, -/
theorem word_batch : Ideal.ofBits .f32 0x45800000#32 = ((4096 : ℝ) : EReal) := by
  simp [Ideal.ofBits, Ideal.ieee, -EReal.coe_mul]; norm_num

/-- its reciprocal, -/
theorem word_share : Ideal.ofBits .f32 0x39800000#32 = ((1 / 4096 : ℝ) : EReal) := by
  simp [Ideal.ofBits, Ideal.ieee, -EReal.coe_mul]; norm_num

/-- and plus infinity. -/
theorem word_top : Ideal.ofBits .f32 0x7F800000#32 = ⊤ := by
  simp [Ideal.ofBits, Ideal.ieee]

/-- The small offset is a real number: the one its word denotes. -/
def eps : ℝ := (Ideal.ofBits .f32 0x358637BD#32).toReal

theorem word_eps : Ideal.ofBits .f32 0x358637BD#32 = (eps : EReal) := by
  refine (EReal.coe_toReal ?_ ?_).symm <;> simp [Ideal.ofBits, Ideal.ieee, -EReal.coe_mul]

/-! ## Extended reals that are real -/

/-- A sum of reals, taken among the extended reals, is the real sum. -/
theorem sum_coe {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A real quotient by a real other than zero is the real quotient. -/
theorem div_coe (a b : ℝ) (hb : b ≠ 0) : Ideal.div (a : EReal) (b : EReal) = ((a / b : ℝ) : EReal) := by
  rw [Ideal.div, if_neg (by exact_mod_cast hb), ← EReal.coe_inv, ← EReal.coe_mul, div_eq_mul_inv]

/-! ## Distances and scores -/

variable (x : Fin 4096 → Fin 2048 → ℝ) (w : Fin 1000 → Fin 10 → Fin 2048 → ℝ)

/-- The centre of class `n`: the mean of its ten slots less the small offset. -/
def center (n : Fin 1000) (d : Fin 2048) : ℝ := (∑ k, w n k d) / 10 - eps

/-- The squared distance of instance `b` to class `n`. -/
def sqDist (b : Fin 4096) (n : Fin 1000) : ℝ := ∑ d, (x b d - center w n d) * (x b d - center w n d)

/-- The score of class `n` for instance `b`: the squared distance without the instance's own squared length. -/
def score (b : Fin 4096) (n : Fin 1000) : ℝ :=
  (∑ d, center w n d * center w n d) - 2 * ∑ d, x b d * center w n d

/-- The squared distance is the score plus the instance's squared length. -/
theorem sqDist_eq (b : Fin 4096) (n : Fin 1000) : sqDist x w b n = score x w b n + ∑ d, x b d * x b d := by
  unfold sqDist score
  rw [Finset.mul_sum, ← Finset.sum_sub_distrib, ← Finset.sum_add_distrib]
  exact Finset.sum_congr rfl fun d _ => by ring

theorem sqDist_nonneg (b : Fin 4096) (n : Fin 1000) : 0 ≤ sqDist x w b n :=
  Finset.sum_nonneg fun _ _ => mul_self_nonneg _

/-- The distances order the classes of an instance as the scores do. -/
theorem dist_lt_iff (b : Fin 4096) (n k : Fin 1000) :
    Real.sqrt (sqDist x w b n) < Real.sqrt (sqDist x w b k) ↔ score x w b n < score x w b k := by
  rw [Real.sqrt_lt_sqrt_iff (sqDist_nonneg x w b n), sqDist_eq, sqDist_eq, add_lt_add_iff_right]

/-! ## The first least index -/

/-- `a` is the first index at which `f` is least. -/
def IsFirst {N : ℕ} (f : Fin N → ℝ) (a : Fin N) : Prop := (∀ i, f a ≤ f i) ∧ ∀ i, i < a → f a < f i

theorem IsFirst.unique {N : ℕ} {f : Fin N → ℝ} {a b : Fin N} (ha : IsFirst f a) (hb : IsFirst f b) : a = b := by
  rcases lt_trichotomy a b with h | h | h
  · exact absurd (hb.2 a h) (not_lt.2 (ha.1 b))
  · exact h
  · exact absurd (ha.2 b h) (not_lt.2 (hb.1 a))

/-- Two functions that order the indices alike have the same first least index. -/
theorem IsFirst.of_lt_iff {N : ℕ} {f g : Fin N → ℝ} (h : ∀ i k, g i < g k ↔ f i < f k) {a : Fin N} (ha : IsFirst f a) :
    IsFirst g a :=
  ⟨fun i => not_lt.1 fun e => absurd ((h i a).1 e) (not_lt.2 (ha.1 i)), fun i hi => (h a i).2 (ha.2 i hi)⟩

theorem exists_isFirst (f : Fin 1000 → ℝ) : ∃ a, IsFirst f a := by
  classical
  obtain ⟨m, -, hm⟩ := Finset.exists_min_image (Finset.univ : Finset (Fin 1000)) f ⟨0, Finset.mem_univ _⟩
  obtain ⟨a, ha, hmin⟩ := Finset.exists_min_image (Finset.univ.filter fun i => f i = f m) id
    ⟨m, Finset.mem_filter.2 ⟨Finset.mem_univ _, rfl⟩⟩
  have hfa : f a = f m := (Finset.mem_filter.1 ha).2
  refine ⟨a, fun i => hfa ▸ hm i (Finset.mem_univ _), fun i hi => lt_of_le_of_ne (hfa ▸ hm i (Finset.mem_univ _)) fun e => ?_⟩
  exact absurd (hmin i (Finset.mem_filter.2 ⟨Finset.mem_univ _, e.symm.trans hfa⟩)) (not_le.2 hi)

/-- The class nearest to instance `b`: the first of least score. -/
def nearest (b : Fin 4096) : Fin 1000 := (exists_isFirst (score x w b)).choose

theorem nearest_score (b : Fin 4096) : IsFirst (score x w b) (nearest x w b) := (exists_isFirst (score x w b)).choose_spec

/-- It is also the first of least distance. -/
theorem nearest_dist (b : Fin 4096) : IsFirst (fun n => Real.sqrt (sqDist x w b n)) (nearest x w b) :=
  (nearest_score x w b).of_lt_iff fun i k => dist_lt_iff x w b i k

end Cert.Nearest

end
-- ==== Proof.PrepValue.lean ====
/- What a preparing point computes on real inputs: the centres of its 256 coordinates, padded with zero columns, in the first
   part, zeros in the other two parts, and the columns' sums of squares. -/
module

public import proofs.«01_k».proof.Proof.Gen.KernelIdeal.Skeleton
public import proofs.«01_k».proof.Proof.Nearest
public import Idealize.ShloMosaic.Lib.ValueLayout
public import Idealize.ShloMosaic.Lib.Pipeline.Value
public import Idealize.ShloMosaic.Lib.Pointwise

@[expose] public section

set_option maxRecDepth 16384

noncomputable section

namespace Cert.KernelIdeal.Val

open Cert.KernelIdeal.Gen Cert.Nearest
open Idealize.ShloMosaic

/-- A real row of 1000 columns, padded with zeros to 1024. -/
def padded (f : Fin 1000 → ℝ) (n : Fin 1024) : ℝ := if h : n.val < 1000 then f ⟨n.val, h⟩ else 0

variable (w : Vec Ideal S10x1000x256 .f32) (V : Fin 10 → Fin 1000 → Fin 256 → ℝ)

/-- The padded means less the small offset, on a real block. -/
theorem pay6_apply (hw : ∀ k n d, w (ix3 k n d) = (V k n d : EReal)) (d : Fin 256) (n : Fin 1024) :
    k0_pay6 w (ix2 d n) = ((padded (fun n => (∑ k, V k n d) / 10 - eps) n : ℝ) : EReal) := by
  unfold k0_pay6 padded
  by_cases h : n.val < 1000
  · rw [dif_pos h]
    refine (concatenate_pair_apply_left (t := S256x1024) (s₁ := S256x1000) (s₂ := S256x24) 1 _ _ _ (ix2 d n) rfl
      (ix2 d ⟨n.val, h⟩ : S256x1000.Idx) (fun b => match b with | ⟨0, _⟩ => rfl | ⟨1, _⟩ => rfl)).trans ?_
    refine (ValueIdx.transpose_ix2_apply (a := 1000) (b := 256) _ _ d ⟨n.val, h⟩).trans ?_
    have hs : ∑ k : Fin 10, w (reduces_S10x1000x256_S1000x256.lift (ix2 ⟨n.val, h⟩ d) k)
        = ((∑ k, V k ⟨n.val, h⟩ d : ℝ) : EReal) := by
      rw [← sum_coe]
      refine Finset.sum_congr rfl fun k _ => ?_
      rw [← hw]
      exact congrArg w (funext fun a => match a with | ⟨0, _⟩ => rfl | ⟨1, _⟩ => rfl | ⟨2, _⟩ => rfl)
    have hd : multiReduction (F := Ideal) .add [0] S1000x256 (shapeCast S10x1000x256 w shapeCasts_S10x1000x256_S10x1000x256) 0x00000000#32
        reduces_S10x1000x256_S1000x256 (.inl rfl) rfl (ix2 ⟨n.val, h⟩ d) = ((∑ k, V k ⟨n.val, h⟩ d : ℝ) : EReal) := by
      refine (Ideal.multiReduction_add_single _ _ _ _ _ _).trans ?_
      rw [shapeCast_self]
      exact hs
    refine (congrArg₂ (· - ·) ((congrArg₂ Ideal.div hd word_ten).trans (div_coe _ _ (by norm_num))) word_eps).trans ?_
    exact (EReal.coe_sub _ _).symm
  · rw [dif_neg h]
    refine (concatenate_pair_apply_right (t := S256x1024) (s₁ := S256x1000) (s₂ := S256x24) 1 _ _ _ (ix2 d n) rfl rfl
      (ix2 d ⟨n.val - 1000, by omega⟩ : S256x24.Idx) (fun b hb => match b with | ⟨0, _⟩ => rfl | ⟨1, _⟩ => absurd rfl hb)
      (by show n.val - 1000 + 1000 = n.val; omega)).trans ?_
    exact Ideal.ofBits_zero_f32

/-- The first part is the padded array itself, -/
theorem pay10_apply (i : S256x1024.Idx) : k0_pay10 w i = k0_pay6 w i := by
  unfold k0_pay10
  rw [shapeCast_self]
  rfl

/-- What the first part leaves is zero, -/
theorem pay8_apply (hw : ∀ k n d, w (ix3 k n d) = (V k n d : EReal)) (i : S256x1024.Idx) : k0_pay8 w i = ((0 : ℝ) : EReal) := by
  obtain ⟨d, n, rfl⟩ : ∃ (d : Fin 256) (n : Fin 1024), i = ix2 d n := ⟨i 0, i 1, (ix2_eta i).symm⟩
  show (k0_pay6 w (ix2 d n) : EReal) - k0_pay6 w (ix2 d n) = _
  rw [pay6_apply w V hw, ← EReal.coe_sub, sub_self]

/-- so the second part is zero, -/
theorem pay11_apply (hw : ∀ k n d, w (ix3 k n d) = (V k n d : EReal)) (i : S256x1024.Idx) : k0_pay11 w i = ((0 : ℝ) : EReal) := by
  unfold k0_pay11
  rw [shapeCast_self]
  exact pay8_apply w V hw i

/-- and the third. -/
theorem pay12_apply (hw : ∀ k n d, w (ix3 k n d) = (V k n d : EReal)) (i : S256x1024.Idx) : k0_pay12 w i = ((0 : ℝ) : EReal) := by
  unfold k0_pay12
  rw [shapeCast_self]
  show (k0_pay8 w i : EReal) - k0_pay8 w i = _
  rw [pay8_apply w V hw, ← EReal.coe_sub, sub_self]

/-- The columns' sums of squares of the block are added to the running ones. -/
theorem pay14_apply (hw : ∀ k n d, w (ix3 k n d) = (V k n d : EReal)) (v : Vec Ideal S1x1024 .f32) (g : ℝ) (u : Fin 1) (n : Fin 1024)
    (hv : v (ix2 u n) = (g : EReal)) :
    k0_pay1 (k0_pay14 w v) (ix2 u n) = ((g + ∑ d : Fin 256, padded (fun n => (∑ k, V k n d) / 10 - eps) n
      * padded (fun n => (∑ k, V k n d) / 10 - eps) n : ℝ) : EReal) := by
  unfold k0_pay1 k0_pay14
  rw [shapeCast_self, EReal.coe_add]
  refine congrArg₂ (· + ·) hv ?_
  refine (ValueIdx.shapeCast_a_1a_apply (a := 1024) _ _ u n).trans ?_
  refine (Ideal.multiReduction_add_single _ _ _ _ _ _).trans ?_
  rw [← sum_coe]
  refine Finset.sum_congr rfl fun d _ => ?_
  rw [EReal.coe_mul, ← pay6_apply w V hw d n]
  exact congrArg (mulf (k0_pay6 w) (k0_pay6 w)) (funext fun a => match a with | ⟨0, _⟩ => rfl | ⟨1, _⟩ => rfl)

/-- The running sums start at zero. -/
theorem pay13_apply (i : S1x1024.Idx) : (k0_pay13 : FVec Ideal S1x1024 .f32) i = ((0 : ℝ) : EReal) := by
  unfold k0_pay13
  rw [shapeCast_self]
  exact Ideal.ofBits_zero_f32

end Cert.KernelIdeal.Val

end
-- ==== Proof.PartValue.lean ====
/- What the scratch buffers hold after the preparing points, on a real memory: the padded centres, zeros, zeros, and the padded
   centres' sums of squares. -/
module

public import proofs.«01_k».proof.Proof.Arrays
public import proofs.«01_k».proof.Proof.PrepValue
public import Idealize.ShloMosaic.Lib.Pipeline.ValueKit.Acc

@[expose] public section

set_option maxRecDepth 16384

noncomputable section

namespace Cert.KernelIdeal.Val

open Cert.KernelIdeal.Gen Cert.Nearest
open Idealize.ShloMosaic Idealize.ShloMosaic.TcCoe Idealize.SL.Sem

variable (m : (ℓ : Loc nD τ sig) → Buf (Elt Ideal) ℓ) (c : Dev nD) (W : Fin 1000 → Fin 10 → Fin 2048 → ℝ)

/-- The centres' coordinate `e`, padded to 1024 columns. -/
def column (e : Fin 2048) (n : Fin 1024) : ℝ := padded (fun n => center W n e) n

/-- Point `t`'s block of the real memory. -/
def slab (t : ℕ) (h : t < 8) (k : Fin 10) (n : Fin 1000) (d : Fin 256) : ℝ := W n k ⟨t * 256 + d.val, by omega⟩

theorem column_slab (t : ℕ) (h : t < 8) (d : Fin 256) (n : Fin 1024) :
    padded (fun n => (∑ k, slab W t h k n d) / 10 - eps) n = column W ⟨t * 256 + d.val, by omega⟩ n := rfl

/-- The memory argument holds the reals `W`. -/
def HoldsMemory : Prop := ∀ n k e, m ((c : Thread nD τ).loc main_arg2) (ix3 n k e) = (W n k e : EReal)

variable {m c W} (hW : HoldsMemory m c W)
include hW

theorem iblk0_slab (t : Fin cfg0.N) (h : t.val < 8) (k : Fin 10) (n : Fin 1000) (d : Fin 256) :
    iblk m c 0 t (ix3 k n d) = (slab W t.val h k n d : EReal) :=
  (iblk0_apply m c t h k n d ⟨t.val * 256 + d.val, by omega⟩ (by show t.val * 256 + d.val = _; omega)).trans (hW _ _ _)

/-- The first buffer holds the padded centres, -/
theorem part1_apply (e : Fin 2048) (n : Fin 1024) : part1 m c (ix2 e n) = ((column W e n : ℝ) : EReal) := by
  have he : e.val / 256 < 8 := by omega
  show k0_pay10 (iblk m c 0 (pt (e.val / 256) _)) _ = _
  rw [pay10_apply]
  refine (congrArg (k0_pay6 (iblk m c 0 (pt (e.val / 256) (by omega))))
    (Shape.idx_ext₂ rfl rfl : rowPlace (ix2 e n) = ix2 (⟨e.val % 256, Nat.mod_lt _ (by decide)⟩ : Fin 256) n)).trans ?_
  rw [pay6_apply _ (slab W (e.val / 256) he) (fun k n d => iblk0_slab hW (pt (e.val / 256) (by omega)) he k n d), column_slab]
  exact congrArg (fun e => ((column W e n : ℝ) : EReal)) (Fin.ext (by show e.val / 256 * 256 + e.val % 256 = e.val; omega))

/-- the second zeros, -/
theorem part2_apply (y : S2048x1024.Idx) : part2 m c y = ((0 : ℝ) : EReal) := by
  have hy : (y 0).val < 2048 := (y 0).isLt
  exact pay11_apply _ (slab W ((y 0).val / 256) (by omega)) (fun k n d => iblk0_slab hW (rowPoint y) (by show (y 0).val / 256 < 8; omega) k n d) _

/-- the third too, -/
theorem part3_apply (y : S2048x1024.Idx) : part3 m c y = ((0 : ℝ) : EReal) := by
  have hy : (y 0).val < 2048 := (y 0).isLt
  exact pay12_apply _ (slab W ((y 0).val / 256) (by omega)) (fun k n d => iblk0_slab hW (rowPoint y) (by show (y 0).val / 256 < 8; omega) k n d) _

/-- and before point `t` the last buffer holds the sums of squares over the first `t` blocks. -/
theorem norms_apply (u : Fin 1) (n : Fin 1024) : ∀ t (h : t ≤ 8), norms m c t (ix2 u n)
    = ((∑ s : Fin t, ∑ d : Fin 256, column W ⟨s.val * 256 + d.val, by omega⟩ n * column W ⟨s.val * 256 + d.val, by omega⟩ n : ℝ) : EReal)
  | 0, _ => by
    rw [Fin.sum_univ_zero]
    exact pay13_apply _
  | t + 1, h => by
    rw [Fin.sum_univ_castSucc, norms_prep m c (pt t (by omega)) (by show t < 8; omega)]
    exact pay14_apply _ (slab W t (by omega)) (fun k n d => iblk0_slab hW (pt t (by omega)) (by show t < 8; omega) k n d) _ _ u n
      (norms_apply u n t (by omega))

/-- At the end these are the sums of squares over all coordinates. -/
theorem norms_eight (u : Fin 1) (n : Fin 1024) :
    norms m c 8 (ix2 u n) = ((∑ e : Fin 2048, column W e n * column W e n : ℝ) : EReal) := by
  rw [norms_apply hW u n 8 le_rfl]
  exact congrArg _ (Fin.sum_mul_add_fin 8 256 (fun e : Fin 2048 => column W e n * column W e n))

end Cert.KernelIdeal.Val

end
-- ==== Proof.CrossValue.lean ====
/- What a scoring point's products come to when the instances are real and the second and third parts are zero: the product with
   the first part. -/
module

public import proofs.«01_k».proof.Proof.Gen.KernelIdeal.Skeleton
public import proofs.«01_k».proof.Proof.Nearest
public import Idealize.ShloMosaic.Lib.ValueLayout
public import Idealize.ShloMosaic.Lib.MatmulPlain
public import Idealize.ShloMosaic.Lib.Pipeline.Value
public import Idealize.ShloMosaic.Lib.Pointwise

@[expose] public section

set_option maxRecDepth 16384

noncomputable section

namespace Cert.KernelIdeal.Val

open Cert.KernelIdeal.Gen Cert.Nearest
open Idealize.ShloMosaic

/-! ## The two arrays of stacked parts -/

section Stack
variable {α : Type} (a b d : S512x2048.Idx → α) (r : Fin 512) (e : Fin 2048)

/-- Of three stacked arrays the first is at the top, -/
theorem stack3_top : concatenate S1536x2048 0 [⟨S512x2048, a⟩, ⟨S512x2048, b⟩, ⟨S512x2048, d⟩]
    concatenates_S512x2048_S512x2048_S512x2048_S1536x2048_d0 (ix2 (⟨r.val, by omega⟩ : Fin 1536) e) = a (ix2 r e) :=
  concatenate_apply_piece (t := S1536x2048) 0 [⟨S512x2048, a⟩, ⟨S512x2048, b⟩, ⟨S512x2048, d⟩] _ _ 0 (by simp) S512x2048 a rfl rfl 0 rfl (ix2 r e)
    (fun c hc => match c with | ⟨0, _⟩ => absurd rfl hc | ⟨1, _⟩ => rfl) (Nat.zero_add _)

/-- the second below it, -/
theorem stack3_middle : concatenate S1536x2048 0 [⟨S512x2048, a⟩, ⟨S512x2048, b⟩, ⟨S512x2048, d⟩]
    concatenates_S512x2048_S512x2048_S512x2048_S1536x2048_d0 (ix2 (⟨512 + r.val, by omega⟩ : Fin 1536) e) = b (ix2 r e) :=
  concatenate_apply_piece (t := S1536x2048) 0 [⟨S512x2048, a⟩, ⟨S512x2048, b⟩, ⟨S512x2048, d⟩] _ _ 1 (by simp) S512x2048 b rfl rfl 512 rfl (ix2 r e)
    (fun c hc => match c with | ⟨0, _⟩ => absurd rfl hc | ⟨1, _⟩ => rfl) rfl

/-- and the third at the bottom. -/
theorem stack3_bottom : concatenate S1536x2048 0 [⟨S512x2048, a⟩, ⟨S512x2048, b⟩, ⟨S512x2048, d⟩]
    concatenates_S512x2048_S512x2048_S512x2048_S1536x2048_d0 (ix2 (⟨1024 + r.val, by omega⟩ : Fin 1536) e) = d (ix2 r e) :=
  concatenate_apply_piece (t := S1536x2048) 0 [⟨S512x2048, a⟩, ⟨S512x2048, b⟩, ⟨S512x2048, d⟩] _ _ 2 (by simp) S512x2048 d rfl rfl 1024 rfl (ix2 r e)
    (fun c hc => match c with | ⟨0, _⟩ => absurd rfl hc | ⟨1, _⟩ => rfl) rfl

end Stack

/-! ## The products -/

/-- A product from zero is the sum of products. -/
theorem product_apply {M : ℕ} (L : FVec Ideal ⟨2, ![M, 2048]⟩ .bf16) (R : FVec Ideal S2048x1024 .bf16) (r : Fin M) (n : Fin 1024) :
    matmul (DotDims.plain M 2048 1024) none L R (constant ⟨2, ![M, 1024]⟩ .f32 0x00000000#32) (ix2 r n)
      = ∑ e : Fin 2048, L (ix2 r e) * R (ix2 e n) := by
  exact (Ideal.matmul_plain_apply none L R _ r n).trans ((congrArg (· + _) Ideal.ofBits_zero_f32).trans (zero_add _))

variable (x : Vec Ideal S512x2048 .f32) (m1 m2 m3 : FVec Ideal S2048x1024 .bf16)

/-- What the leading part of the instances leaves, -/
def rest (x : Vec Ideal S512x2048 .f32) : FVec Ideal S512x2048 .f32 := subf x (extf .f32 (truncf .bf16 x bitsLt_bf16_f32) bitsLt_bf16_f32)

/-- The product of the three stacked parts of the instances with the memory's first part, -/
def tall : FVec Ideal S1536x1024 .f32 :=
  matmul dot_S1536x2048_S2048x1024_S1536x1024_1_0_0_1_n_n none
    (concatenate S1536x2048 0 [⟨S512x2048, truncf .bf16 x bitsLt_bf16_f32⟩, ⟨S512x2048, truncf .bf16 (rest x) bitsLt_bf16_f32⟩,
      ⟨S512x2048, truncf .bf16 (rest (rest x)) bitsLt_bf16_f32⟩] concatenates_S512x2048_S512x2048_S512x2048_S1536x2048_d0)
    m1 (constant S1536x1024 .f32 0x00000000#32)

/-- of the two leading parts with the memory's second part, -/
def wide : FVec Ideal S1024x1024 .f32 :=
  matmul dot_S1024x2048_S2048x1024_S1024x1024_1_0_0_1_n_n none
    (concatenate S1024x2048 0 [⟨S512x2048, truncf .bf16 x bitsLt_bf16_f32⟩, ⟨S512x2048, truncf .bf16 (rest x) bitsLt_bf16_f32⟩]
      concatenates_S512x2048_S512x2048_S1024x2048_d0) m2 (constant S1024x1024 .f32 0x00000000#32)

/-- and of the leading part with the memory's third part. -/
def low : FVec Ideal S512x1024 .f32 :=
  matmul dot_S512x2048_S2048x1024_S512x1024_1_0_0_1_n_n none (truncf .bf16 x bitsLt_bf16_f32) m3 (constant S512x1024 .f32 0x00000000#32)

/-- The six products, added. -/
def cross : FVec Ideal S512x1024 .f32 :=
  addf (addf (addf (addf (extractStridedSlice S512x1024 ![1024, 0] (tall x m1) slices_S1536x1024_o1024_0_S512x1024)
        (extractStridedSlice S512x1024 ![512, 0] (wide x m2) slices_S1024x1024_o512_0_S512x1024)) (low x m3))
      (addf (extractStridedSlice S512x1024 ![512, 0] (tall x m1) slices_S1536x1024_o512_0_S512x1024)
        (extractStridedSlice S512x1024 ![0, 0] (wide x m2) slices_S1024x1024_o0_0_S512x1024)))
    (extractStridedSlice S512x1024 ![0, 0] (tall x m1) slices_S1536x1024_o0_0_S512x1024)

variable {x m1 m2 m3} (r : Fin 512) (A : Fin 2048 → ℝ) (hx : ∀ e, x (ix2 r e) = (A e : EReal))

include hx in
/-- A real row leaves nothing, -/
theorem rest_apply (e : Fin 2048) : rest x (ix2 r e) = (0 : EReal) := by
  show (x (ix2 r e) : EReal) - x (ix2 r e) = 0
  rw [hx, ← EReal.coe_sub, sub_self, EReal.coe_zero]

include hx in
theorem rest_rest_apply (e : Fin 2048) : rest (rest x) (ix2 r e) = (0 : EReal) := by
  show (rest x (ix2 r e) : EReal) - rest x (ix2 r e) = 0
  rw [rest_apply r A hx, sub_zero]

include hx in
/-- so the two lower thirds of the tall product are zero -/
theorem tall_bottom (n : Fin 1024) : tall x m1 (ix2 (⟨1024 + r.val, by omega⟩ : Fin 1536) n) = (0 : EReal) :=
  (product_apply (M := 1536) _ m1 _ n).trans (Finset.sum_eq_zero fun e _ => by
    rw [stack3_bottom]
    exact (congrArg (· * (m1 (ix2 e n) : EReal)) (rest_rest_apply r A hx e)).trans (zero_mul _))

include hx in
theorem tall_middle (n : Fin 1024) : tall x m1 (ix2 (⟨512 + r.val, by omega⟩ : Fin 1536) n) = (0 : EReal) :=
  (product_apply (M := 1536) _ m1 _ n).trans (Finset.sum_eq_zero fun e _ => by
    rw [stack3_middle]
    exact (congrArg (· * (m1 (ix2 e n) : EReal)) (rest_apply r A hx e)).trans (zero_mul _))

include hx in
/-- and its upper third is the product with the memory's first part. -/
theorem tall_top (Q : Fin 2048 → Fin 1024 → ℝ) (h1 : ∀ e n, m1 (ix2 e n) = (Q e n : EReal)) (n : Fin 1024) :
    tall x m1 (ix2 (⟨r.val, by omega⟩ : Fin 1536) n) = ((∑ e, A e * Q e n : ℝ) : EReal) := by
  refine (product_apply (M := 1536) _ m1 _ n).trans ?_
  rw [← sum_coe]
  refine Finset.sum_congr rfl fun e _ => ?_
  rw [stack3_top, EReal.coe_mul, ← hx e, ← h1 e n]
  rfl

/-- Where the memory's second part is zero the wide product is zero, -/
theorem wide_apply (h2 : ∀ y, m2 y = ((0 : ℝ) : EReal)) (i : Fin 1024) (n : Fin 1024) : wide x m2 (ix2 i n) = (0 : EReal) :=
  (product_apply (M := 1024) _ m2 i n).trans (Finset.sum_eq_zero fun e _ => by rw [h2]; exact mul_zero _)

/-- and where its third part is zero so is the last product. -/
theorem low_apply (h3 : ∀ y, m3 y = ((0 : ℝ) : EReal)) (i : Fin 512) (n : Fin 1024) : low x m3 (ix2 i n) = (0 : EReal) :=
  (product_apply (M := 512) _ m3 i n).trans (Finset.sum_eq_zero fun e _ => by rw [h3]; exact mul_zero _)

include hx in
/-- The six products together are the one product of real numbers. -/
theorem cross_apply (Q : Fin 2048 → Fin 1024 → ℝ) (h1 : ∀ e n, m1 (ix2 e n) = (Q e n : EReal))
    (h2 : ∀ y, m2 y = ((0 : ℝ) : EReal)) (h3 : ∀ y, m3 y = ((0 : ℝ) : EReal)) (n : Fin 1024) :
    cross x m1 m2 m3 (ix2 r n) = ((∑ e, A e * Q e n : ℝ) : EReal) := by
  have a1 := (ValueIdx.slice2_axis0_apply 1024 (tall x m1) slices_S1536x1024_o1024_0_S512x1024 r n ⟨1024 + r.val, by omega⟩ rfl).trans
    (tall_bottom r A hx n)
  have a2 := (ValueIdx.slice2_axis0_apply 512 (wide x m2) slices_S1024x1024_o512_0_S512x1024 r n ⟨512 + r.val, by omega⟩ rfl).trans
    (wide_apply h2 _ n)
  have a3 := low_apply (x := x) h3 r n
  have a4 := (ValueIdx.slice2_axis0_apply 512 (tall x m1) slices_S1536x1024_o512_0_S512x1024 r n ⟨512 + r.val, by omega⟩ rfl).trans
    (tall_middle r A hx n)
  have a5 := (ValueIdx.slice2_axis0_apply 0 (wide x m2) slices_S1024x1024_o0_0_S512x1024 r n ⟨r.val, by omega⟩ (Nat.zero_add _).symm).trans
    (wide_apply h2 _ n)
  have a6 := (ValueIdx.slice2_axis0_apply 0 (tall x m1) slices_S1536x1024_o0_0_S512x1024 r n ⟨r.val, by omega⟩ (Nat.zero_add _).symm).trans
    (tall_top r A hx Q h1 n)
  refine (congrArg₂ (· + ·) (congrArg₂ (· + ·) (congrArg₂ (· + ·) (congrArg₂ (· + ·) a1 a2) a3) (congrArg₂ (· + ·) a4 a5)) a6).trans ?_
  simp only [add_zero, zero_add]

end Cert.KernelIdeal.Val

end
-- ==== Proof.ChoiceValue.lean ====
/- What a scoring point chooses: on real instances and a real first part, the first class of least score. -/
module

public import proofs.«01_k».proof.Proof.ScoreRun
public import proofs.«01_k».proof.Proof.CrossValue
public import Idealize.ShloMosaic.Lib.ValueLayoutCasts

@[expose] public section

set_option maxRecDepth 16384

noncomputable section

namespace Cert.KernelIdeal.Val

open Cert.KernelIdeal.Gen Cert.Nearest
open Idealize.ShloMosaic

/-! ## The least entry of a row -/

/-- The minimum of finitely many numbers is the least of them. -/
theorem fold_least {K : ℕ} (f : Fin K → EReal) (a : Fin K) (h : ∀ n, f a ≤ f n) : Finset.univ.fold min ⊤ f = f a :=
  le_antisymm ((Finset.fold_min_le _).2 (.inr ⟨a, Finset.mem_univ _, le_rfl⟩)) ((Finset.le_fold_min _).2 ⟨le_top, fun n _ => h n⟩)

/-- A row's minimum is its least entry. -/
theorem minimum_row (S : FVec Ideal S512x1024 .f32) (h : S512x1024.Reduces [1] S512) (hφ : FKind.Formats .f32)
    (hacc : 0x7F800000#32 = FKind.minimumf.neutral .f32 hφ) (r : Fin 512) (a : Fin 1024)
    (ha : ∀ n : Fin 1024, (S (ix2 r a) : EReal) ≤ S (ix2 r n)) :
    multiReduction .minimumf [1] S512 S 0x7F800000#32 h hφ hacc (ix1 r) = S (ix2 r a) := by
  classical
  refine (multiReduction_minimumf_eq_fold S _ h hφ hacc (ix1 r)).trans ?_
  rw [Shape.Reduces.fold_filter_drop_single]
  have hl (n : Fin 1024) : h.lift (ix1 r) n = ix2 r n := funext fun c => match c with | ⟨0, _⟩ => rfl | ⟨1, _⟩ => rfl
  refine Eq.trans (b := (Finset.univ : Finset (Fin 1024)).fold min (Ideal.ofBits .f32 0x7F800000#32)
    (fun n => (S (h.lift (ix1 r) n) : EReal))) rfl ?_
  rw [word_top]
  exact (fold_least (fun n => (S (h.lift (ix1 r) n) : EReal)) a fun n =>
    (le_of_eq (congrArg S (hl a))).trans ((ha n).trans (le_of_eq (congrArg S (hl n)).symm))).trans (congrArg S (hl a))

/-! ## Class numbers as words and as floats -/

theorem toInt_class (n : ℕ) (h : n < 4097) : (BitVec.ofNat 32 n).toInt = (n : ℤ) := by
  rw [BitVec.toInt_ofNat', Int.bmod_eq_of_le] <;> omega

/-- The column number, as a float, is the column number. -/
theorem pay15_apply (r : Fin 512) (n : Fin 1024) : (k0_pay15 : FVec Ideal S512x1024 .f32) (ix2 r n) = ((n.val : ℝ) : EReal) := by
  show (((iota .tc S512x1024 32 [1] iota_S512x1024_d1_w32 (ix2 r n)).toInt : ℝ) : EReal) = _
  rw [iota_single_apply]
  show (((BitVec.ofNat 32 n.val).toInt : ℝ) : EReal) = _
  rw [toInt_class n.val (by omega)]
  norm_cast

/-- A class number turned into a word is that number. -/
theorem fptosi_class (n : ℕ) (h : n < 1000) : Ideal.fptosi 32 ((n : ℝ) : EReal) = BitVec.ofNat 32 n := by
  unfold Ideal.fptosi
  rw [Ideal.toIntClamped_coe, if_pos (Nat.cast_nonneg n), Int.floor_natCast, min_eq_right (by norm_num; omega), max_eq_right (by norm_num),
    BitVec.ofInt_natCast]

/-! ## The masked scores -/

/-- The scores a scoring point compares: plus infinity on the padding columns. -/
def masked (x : Vec Ideal S512x2048 .f32) (m1 m2 m3 : FVec Ideal S2048x1024 .bf16) (v : Vec Ideal S1x1024 .f32) : FVec Ideal S512x1024 .f32 :=
  select (cmpi .slt (iota .tc S512x1024 32 [1] iota_S512x1024_d1_w32) (broadcast S512x1024 1000#32))
    (subf (broadcastTo S512x1024 v broadcasts_S1x1024_S512x1024)
      (mulf (broadcast S512x1024 (Scalar.ofBits .f32 0x40000000#32)) (cross x m1 m2 m3)))
    (broadcast S512x1024 (Scalar.ofBits .f32 0x7F800000#32))

/-- A scoring point marks the entries equal to their row's minimum. -/
theorem pay16_eq (x : Vec Ideal S512x2048 .f32) (m1 m2 m3 : FVec Ideal S2048x1024 .bf16) (v : Vec Ideal S1x1024 .f32) :
    k0_pay16 x m1 m2 m3 v = cmpf .oeq (masked x m1 m2 m3 v) (broadcastTo S512x1024 (shapeCast S512x1
      (multiReduction .minimumf [1] S512 (masked x m1 m2 m3 v) 0x7F800000#32 reduces_S512x1024_S512 (.inl rfl) rfl)
      shapeCasts_S512_S512x1) broadcasts_S512x1_S512x1024) := rfl

/-- The class numbers of the marked entries, 1024 elsewhere. -/
def picked (x : Vec Ideal S512x2048 .f32) (m1 m2 m3 : FVec Ideal S2048x1024 .bf16) (v : Vec Ideal S1x1024 .f32) : FVec Ideal S512x1024 .f32 :=
  select (k0_pay16 x m1 m2 m3 v) k0_pay15 k0_pay17

variable {x : Vec Ideal S512x2048 .f32} {m1 m2 m3 : FVec Ideal S2048x1024 .bf16} {v : Vec Ideal S1x1024 .f32}
variable (r : Fin 512) (A : Fin 2048 → ℝ) (Q : Fin 2048 → Fin 1024 → ℝ) (N : Fin 1024 → ℝ)

/-- A row of masked scores, on real inputs. -/
theorem masked_apply (hx : ∀ e, x (ix2 r e) = (A e : EReal)) (h1 : ∀ e n, m1 (ix2 e n) = (Q e n : EReal))
    (h2 : ∀ y, m2 y = ((0 : ℝ) : EReal)) (h3 : ∀ y, m3 y = ((0 : ℝ) : EReal)) (hv : ∀ u n, v (ix2 u n) = (N n : EReal)) (n : Fin 1024) :
    masked x m1 m2 m3 v (ix2 r n) = if n.val < 1000 then ((N n - 2 * ∑ e, A e * Q e n : ℝ) : EReal) else ⊤ := by
  have hi : iota .tc S512x1024 32 [1] iota_S512x1024_d1_w32 (ix2 r n) = BitVec.ofNat 32 n.val := iota_single_apply _ _ _ _ _ _
  have hc : cmpi .slt (iota .tc S512x1024 32 [1] iota_S512x1024_d1_w32) (broadcast S512x1024 1000#32) (ix2 r n)
      = BitVec.ofBool (decide (n.val < 1000)) := by
    show BitVec.ofBool (BitVec.slt (iota .tc S512x1024 32 [1] iota_S512x1024_d1_w32 (ix2 r n)) 1000#32) = _
    rw [hi, BitVec.slt, toInt_class n.val (by omega), show (1000#32).toInt = ((1000 : ℕ) : ℤ) from rfl]
    exact congrArg BitVec.ofBool (decide_eq_decide.2 Nat.cast_lt)
  have hs : (subf (broadcastTo S512x1024 v broadcasts_S1x1024_S512x1024)
      (mulf (broadcast S512x1024 (Scalar.ofBits .f32 0x40000000#32)) (cross x m1 m2 m3)) : FVec Ideal S512x1024 .f32) (ix2 r n)
      = ((N n - 2 * ∑ e, A e * Q e n : ℝ) : EReal) := by
    refine (congrArg₂ (· - ·) ((ValueIdx.broadcastTo_1b_ab_apply v broadcasts_S1x1024_S512x1024 r n).trans (hv 0 n))
      (congrArg₂ (· * ·) word_two (cross_apply r A hx Q h1 h2 h3 n))).trans ?_
    rw [← EReal.coe_mul, ← EReal.coe_sub]
  show Scalar.select (cmpi .slt (iota .tc S512x1024 32 [1] iota_S512x1024_d1_w32) (broadcast S512x1024 1000#32) (ix2 r n)) _ _ = _
  rw [hc, hs]
  by_cases h : n.val < 1000
  · simp [h, Scalar.select]
  · simp only [h, Scalar.select]
    exact word_top

/-! ## The choice -/

/-- On real inputs the class chosen for row `r` is the first of least score. -/
theorem chosen_apply (hx : ∀ e, x (ix2 r e) = (A e : EReal)) (h1 : ∀ e n, m1 (ix2 e n) = (Q e n : EReal))
    (h2 : ∀ y, m2 y = ((0 : ℝ) : EReal)) (h3 : ∀ y, m3 y = ((0 : ℝ) : EReal)) (hv : ∀ u n, v (ix2 u n) = (N n : EReal))
    (T : Fin 1000 → ℝ) (hT : ∀ n : Fin 1000, N ⟨n.val, by omega⟩ - 2 * ∑ e, A e * Q e ⟨n.val, by omega⟩ = T n)
    (a : Fin 1000) (ha : IsFirst T a) (u : Fin 1) :
    chosen x m1 m2 m3 v (ix2 r u) = BitVec.ofNat 32 a.val := by
  have hm (n : Fin 1024) : masked x m1 m2 m3 v (ix2 r n) = if h : n.val < 1000 then (T ⟨n.val, h⟩ : EReal) else ⊤ := by
    rw [masked_apply r A Q N hx h1 h2 h3 hv n]
    by_cases h : n.val < 1000
    · rw [if_pos h, dif_pos h, ← hT ⟨n.val, h⟩]
    · rw [if_neg h, dif_neg h]
  have hma : masked x m1 m2 m3 v (ix2 r (⟨a.val, by omega⟩ : Fin 1024)) = (T a : EReal) := (hm _).trans (dif_pos a.isLt)
  have hle (n : Fin 1024) : (masked x m1 m2 m3 v (ix2 r (⟨a.val, by omega⟩ : Fin 1024)) : EReal) ≤ masked x m1 m2 m3 v (ix2 r n) := by
    rw [hma, hm]
    split
    · exact EReal.coe_le_coe_iff.2 (ha.1 _)
    · exact le_top
  have hbit (n : Fin 1024) : k0_pay16 x m1 m2 m3 v (ix2 r n)
      = Ideal.cmp .oeq (masked x m1 m2 m3 v (ix2 r n)) (T a : EReal) := by
    rw [pay16_eq]
    refine congrArg (Ideal.cmp .oeq (masked x m1 m2 m3 v (ix2 r n))) ?_
    refine (broadcastTo_apply _ _ (ix2 r n) (ix2 r (0 : Fin 1)) fun c => match c with | ⟨0, _⟩ => rfl | ⟨1, _⟩ => rfl).trans ?_
    refine (ValueIdx.shapeCast_a_a1_apply _ _ r 0).trans ?_
    exact (minimum_row _ _ _ _ r _ hle).trans hma
  have hsel (n : Fin 1024) : picked x m1 m2 m3 v (ix2 r n)
      = if masked x m1 m2 m3 v (ix2 r n) = (T a : EReal) then ((n.val : ℝ) : EReal) else ((1024 : ℝ) : EReal) := by
    show Scalar.select (k0_pay16 x m1 m2 m3 v (ix2 r n)) (k0_pay15 (ix2 r n)) (Ideal.ofBits .f32 0x44800000#32) = _
    rw [hbit, pay15_apply, word_filler]
    by_cases h : masked x m1 m2 m3 v (ix2 r n) = (T a : EReal)
    · simp [h, Ideal.cmp, Scalar.select]
    · simp [h, Ideal.cmp, Scalar.select]
  have hselA : picked x m1 m2 m3 v (ix2 r (⟨a.val, by omega⟩ : Fin 1024))
      = ((a.val : ℝ) : EReal) := (hsel _).trans (if_pos hma)
  have hleS (n : Fin 1024) : (picked x m1 m2 m3 v (ix2 r (⟨a.val, by omega⟩ : Fin 1024)) : EReal)
      ≤ picked x m1 m2 m3 v (ix2 r n) := by
    rw [hselA, hsel]
    split
    · rename_i h
      refine EReal.coe_le_coe_iff.2 (Nat.cast_le.2 (not_lt.1 fun hlt => ?_))
      have hn : n.val < 1000 := lt_trans hlt a.isLt
      rw [hm, dif_pos hn, EReal.coe_eq_coe_iff] at h
      exact absurd (ha.2 ⟨n.val, hn⟩ hlt) (by rw [h]; exact lt_irrefl _)
    · refine EReal.coe_le_coe_iff.2 ?_
      have : a.val ≤ 1024 := by omega
      exact_mod_cast this
  show Ideal.fptosi 32 (shapeCast S512x1 (multiReduction .minimumf [1] S512 (picked x m1 m2 m3 v)
    0x7F800000#32 reduces_S512x1024_S512 (.inl rfl) rfl) shapeCasts_S512_S512x1 (ix2 r u)) = _
  exact (congrArg (Ideal.fptosi 32) ((ValueIdx.shapeCast_a_a1_apply _ _ r u).trans ((minimum_row _ _ _ _ r _ hleS).trans hselA))).trans
    (fptosi_class a.val a.isLt)

end Cert.KernelIdeal.Val

end
-- ==== Proof.RefRun.lean ====
/- The run of the reference program: a straight line of operations on whole arrays, so every buffer ends at the operations'
   results. The reference's two results are named here as functions of the three arguments. -/
module

public import proofs.«01_k».proof.Proof.Gen.ReferenceIdeal
public import Idealize.ShloMosaic.Lib.StableHlo.Run

@[expose] public section

set_option maxRecDepth 16384

noncomputable section

namespace Cert.ReferenceIdeal.Val

open Cert.ReferenceIdeal Cert.ReferenceIdeal.Gen
open Idealize.ShloMosaic Idealize.ShloMosaic.TcCoe Idealize.ShloMosaic.StableHlo Idealize.SL.Sem

variable {F : FTy → Type} [FloatOps F]

/-- The mean of the ten slots of each class. -/
def mean (w : FVec F S1000x10x2048 .f32) : FVec F S1000x2048 .f32 :=
  Host.divf (Host.reduceAdd w (constant S_ .f32 0x00000000#32) reducesTo_S1000x10x2048_S1000x2048_d1 h_S_)
    (broadcastInDim S1000x2048 ![] bcast_S_S1000x2048 (constant S_ .f32 0x41200000#32))

/-- Instance minus mean plus a millionth, for every instance, class and feature. -/
def diff (x : FVec F S4096x2048 .f32) (w : FVec F S1000x10x2048 .f32) : FVec F S4096x1000x2048 .f32 :=
  addf (subf (broadcastInDim S4096x1000x2048 ![0, 1, 2] bcast_S4096x1x2048_S4096x1000x2048_0_1_2
        (broadcastInDim S4096x1x2048 ![0, 2] bcast_S4096x2048_S4096x1x2048_0_2 x))
      (broadcastInDim S4096x1000x2048 ![0, 1, 2] bcast_S1x1000x2048_S4096x1000x2048_0_1_2
        (broadcastInDim S1x1000x2048 ![1, 2] bcast_S1000x2048_S1x1000x2048_1_2 (mean w))))
    (broadcastInDim S4096x1000x2048 ![] bcast_S_S4096x1000x2048 (constant S_ .f32 0x358637BD#32))

/-- The distance of every instance to every class. -/
def dist (x : FVec F S4096x2048 .f32) (w : FVec F S1000x10x2048 .f32) : FVec F S4096x1000 .f32 :=
  Host.sqrt (Host.reduceAdd (mulf (diff x w) (diff x w)) (constant S_ .f32 0x00000000#32) reducesTo_S4096x1000x2048_S4096x1000_d2 h_S_)

/-- The second components of an array of pairs. -/
def seconds {α β ι : Type} (f : ι → α × β) : ι → β := fun j => (f j).2

/-- The number of the least entry of each row. -/
def argmin (d : FVec F S4096x1000 .f32) : IVec S4096 32 :=
  seconds (Host.argReduce reducer_argmin_f32_i32 d (iotaInDim S4096x1000 32 1) (constant S_ .f32 0x7F800000#32) (constantI S_ 32 0#32)
    reducesTo_S4096x1000_S4096_d1 h_S_)

/-- The first result: the nearest class of each instance. -/
def cls (x : FVec F S4096x2048 .f32) (w : FVec F S1000x10x2048 .f32) : IVec S4096x1 32 :=
  broadcastInDim S4096x1 ![0] bcast_S4096_S4096x1_0 (argmin (dist x w))

/-- The second result, from the classes `k` and the labels: the share of instances whose class is their label. -/
def acc (k l : IVec S4096x1 32) : FVec F S_ .f32 :=
  Host.divf (sitofp .f32 (Host.reduce IntOp.addi (extui 32 (cmpi .eq k l) natLt_1_32) (constantI S_ 32 0#32) reducesTo_S4096x1_S_d0_1 h_S_))
    (constant S_ .f32 0x45800000#32)

/-- The program's operations, in order. -/
abbrev ops : List (HloOp τ sig (Elt F)) :=
  [ nullary main_cst (constant S_ .f32 0x00000000#32),
    binary main_arg2 main_cst main_v0 (fun x v => Host.reduceAdd x v reducesTo_S1000x10x2048_S1000x2048_d1 h_S_),
    nullary main_cst_0 (constant S_ .f32 0x41200000#32),
    unary main_cst_0 main_v1 (broadcastInDim S1000x2048 ![] bcast_S_S1000x2048),
    binary main_v0 main_v1 main_v2 Host.divf,
    unary main_arg0 main_v3 (broadcastInDim S4096x1x2048 ![0, 2] bcast_S4096x2048_S4096x1x2048_0_2),
    unary main_v2 main_v4 (broadcastInDim S1x1000x2048 ![1, 2] bcast_S1000x2048_S1x1000x2048_1_2),
    unary main_v3 main_v5 (broadcastInDim S4096x1000x2048 ![0, 1, 2] bcast_S4096x1x2048_S4096x1000x2048_0_1_2),
    unary main_v4 main_v6 (broadcastInDim S4096x1000x2048 ![0, 1, 2] bcast_S1x1000x2048_S4096x1000x2048_0_1_2),
    binary main_v5 main_v6 main_v7 subf,
    nullary main_cst_1 (constant S_ .f32 0x358637BD#32),
    unary main_cst_1 main_v8 (broadcastInDim S4096x1000x2048 ![] bcast_S_S4096x1000x2048),
    binary main_v7 main_v8 main_v9 addf,
    binary main_v9 main_v9 main_v10 mulf,
    nullary main_cst_2 (constant S_ .f32 0x00000000#32),
    binary main_v10 main_cst_2 main_v11 (fun x v => Host.reduceAdd x v reducesTo_S4096x1000x2048_S4096x1000_d2 h_S_),
    unary main_v11 main_v12 Host.sqrt,
    nullary main_call0_v0 (iotaInDim S4096x1000 32 1),
    nullary main_call0_cst (constant S_ .f32 0x7F800000#32),
    nullary main_call0_c (constantI S_ 32 0#32),
    quaternary main_v12 main_call0_v0 main_call0_cst main_call0_c main_call0_v1_0
      (fun x y u v j => (Host.argReduce reducer_argmin_f32_i32 x y u v reducesTo_S4096x1000_S4096_d1 h_S_ j).1),
    quaternary main_v12 main_call0_v0 main_call0_cst main_call0_c main_v13
      (fun x y u v j => (Host.argReduce reducer_argmin_f32_i32 x y u v reducesTo_S4096x1000_S4096_d1 h_S_ j).2),
    unary main_v13 main_v14 (broadcastInDim S4096x1 ![0] bcast_S4096_S4096x1_0),
    binary main_v14 main_arg1 main_v15 (cmpi .eq),
    unary main_v15 main_v16 (extui 32 · natLt_1_32),
    nullary main_c (constantI S_ 32 0#32),
    binary main_v16 main_c main_v17 (fun x v => Host.reduce IntOp.addi x v reducesTo_S4096x1_S_d0_1 h_S_),
    unary main_v17 main_v18 (sitofp .f32),
    nullary main_cst_3 (constant S_ .f32 0x45800000#32),
    binary main_v18 main_cst_3 main_v19 Host.divf ]

/-- The program is that straight line. -/
theorem main_eq (c : Dev nD) : main (F := F) c = seq ops := rfl

/-- What the first result's buffer ends at, -/
theorem cls_eq (V : Valuation τ sig (Elt F)) :
    after ops V (main_v14 : DevRef τ sig) = cls (V (main_arg0 : DevRef τ sig)) (V (main_arg2 : DevRef τ sig)) := by
  after_results
  rfl

/-- and the second's. -/
theorem acc_eq (V : Valuation τ sig (Elt F)) :
    after ops V (main_v19 : DevRef τ sig)
      = acc (cls (V (main_arg0 : DevRef τ sig)) (V (main_arg2 : DevRef τ sig))) (V (main_arg1 : DevRef τ sig)) := by
  after_results
  rfl

/-- The argument buffers are not written. -/
theorem arg0_eq (V : Valuation τ sig (Elt F)) : after ops V (main_arg0 : DevRef τ sig) = V (main_arg0 : DevRef τ sig) := by
  after_results
theorem arg1_eq (V : Valuation τ sig (Elt F)) : after ops V (main_arg1 : DevRef τ sig) = V (main_arg1 : DevRef τ sig) := by
  after_results
theorem arg2_eq (V : Valuation τ sig (Elt F)) : after ops V (main_arg2 : DevRef τ sig) = V (main_arg2 : DevRef τ sig) := by
  after_results

theorem scopedRefs_eq : (Finset.univ.filter fun b : Ref sig .tc => b.isScoped) = ∅ := by decide
theorem scopedSems_eq : (Finset.univ.filter fun sm : SemLoc sig => sm.isScoped .tc) = ∅ := by decide

/-- Every operation touches the core's own buffers only. -/
theorem ops_sub : (ops : List (HloOp τ sig (Elt F))).Forall fun op => op.bufs ⊆ tcRefs τ sig :=
  ⟨nullary_bufs_sub .., binary_bufs_sub .., nullary_bufs_sub .., unary_bufs_sub .., binary_bufs_sub ..,
    unary_bufs_sub .., unary_bufs_sub .., unary_bufs_sub .., unary_bufs_sub .., binary_bufs_sub ..,
    nullary_bufs_sub .., unary_bufs_sub .., binary_bufs_sub .., binary_bufs_sub .., nullary_bufs_sub ..,
    binary_bufs_sub .., unary_bufs_sub .., nullary_bufs_sub .., nullary_bufs_sub .., nullary_bufs_sub ..,
    quaternary_bufs_sub .., quaternary_bufs_sub .., unary_bufs_sub .., binary_bufs_sub .., unary_bufs_sub ..,
    nullary_bufs_sub .., binary_bufs_sub .., unary_bufs_sub .., nullary_bufs_sub .., binary_bufs_sub ..⟩

/-- The run: the program ends, its two results' buffers at `cls` and `acc` of the arguments, the arguments unchanged. -/
theorem run_main (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v14) = cls (m ((c.tc : Thread nD τ).loc main_arg0)) (m ((c.tc : Thread nD τ).loc main_arg2))
        ∧ r.2.mem ((c.tc : Thread nD τ).loc main_v19)
            = acc (cls (m ((c.tc : Thread nD τ).loc main_arg0)) (m ((c.tc : Thread nD τ).loc main_arg2))) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2) :=
  (θ_run defs _ _).mono (fun _ h c => ⟨(h c main_v14).trans (cls_eq _), (h c main_v19).trans (acc_eq _),
      (h c main_arg0).trans (arg0_eq _), (h c main_arg1).trans (arg1_eq _), (h c main_arg2).trans (arg2_eq _)⟩)
    (run_seq scopedRefs_eq scopedSems_eq defs main (fun _ => ops) main_eq (fun _ => ops_sub) m ρ)

end Cert.ReferenceIdeal.Val

end
-- ==== Proof.Count.lean ====
/- Counting the instances whose class is their label: as integers, as the kernel adds them up and as the reference does. -/
module

public import proofs.«01_k».proof.Proof.ChoiceValue
public import proofs.«01_k».proof.Proof.RefRun
public import proofs.«01_k».proof.Proof.Nearest
public import Idealize.ShloMosaic.Lib.IndicatorCount
public import Idealize.ShloMosaic.Lib.ValueLayout
public import Idealize.ShloMosaic.Lib.Pipeline.Value
public import Idealize.ShloMosaic.Lib.Pointwise

@[expose] public section

set_option maxRecDepth 16384

noncomputable section

namespace Cert.Count

open Cert.Nearest
open Idealize.ShloMosaic

/-- One if the class is the label, zero otherwise. -/
def hit (k l : BitVec 32) : ℕ := if k = l then 1 else 0

/-- The bit of the comparison, widened and read as a number, is the hit. -/
theorem hit_toInt (k l : BitVec 32) : ((IntOp.cmpi .eq k l).setWidth 32).toInt = (hit k l : ℤ) := by
  unfold hit
  by_cases h : k = l
  · subst h; rw [if_pos rfl]; simp [IntOp.cmpi]
  · rw [if_neg h]
    have hb : (k == l) = false := beq_eq_false_iff_ne.2 h
    simp [IntOp.cmpi, hb]

theorem hit_bit (k l : BitVec 32) : (if IntOp.cmpi .eq k l = 1#1 then 1 else 0) = hit k l := by
  unfold hit
  by_cases h : k = l
  · subst h; simp [IntOp.cmpi]
  · rw [if_neg h]
    have hb : (k == l) = false := beq_eq_false_iff_ne.2 h
    simp [IntOp.cmpi, hb]

theorem hit_le (k l : BitVec 32) : hit k l ≤ 1 := by unfold hit; split <;> omega

/-- A number plus a sum of numbers, added as extended reals. -/
theorem coe_count (g : ℕ) (f : Fin 512 → ℕ) :
    ((g : ℝ) : EReal) + ((∑ r, (f r : ℝ) : ℝ) : EReal) = (((g + ∑ r, f r : ℕ) : ℝ) : EReal) := by
  rw [← EReal.coe_add, Nat.cast_add, Nat.cast_sum]

/-- The number of hits among all instances. -/
def total (k l : Fin 4096 → BitVec 32) : ℕ := ∑ b, hit (k b) (l b)

theorem total_le (k l : Fin 4096 → BitVec 32) : total k l ≤ 4096 :=
  (Finset.sum_le_card_nsmul _ _ 1 fun b _ => hit_le _ _).trans (by rw [Finset.card_fin]; exact le_of_eq rfl)

/-- An integer sum of bits over every axis is their number, as a word. -/
theorem reduce_total {s t u : Shape} {axes : List (Fin s.rank)} [Subsingleton t.Idx] (p : s.Idx → BitVec 1) (init : u.Idx → BitVec 32)
    (h : s.ReducesTo axes t) (hu : 0 < u.numel) (j : t.Idx) (hi : init (Shape.Idx.first hu) = 0#32) :
    Host.reduce IntOp.addi (fun i => (p i).setWidth 32) init h hu j = BitVec.ofNat 32 (∑ i : s.Idx, if p i = 1#1 then 1 else 0) := by
  rw [Host.reduce_eq_fold, hi, Finset.filter_true_of_mem fun i _ => Subsingleton.elim _ _, IndicatorCount.fold_addi_setWidth_eq_card,
    Finset.card_filter]

/-- A count of at most 4096 reads back from its word as itself. -/
theorem toInt_count (n : ℕ) (h : n ≤ 4096) : (BitVec.ofNat 32 n).toInt = (n : ℤ) := Cert.KernelIdeal.Val.toInt_class n (by omega)

/-- The reference's integer sum is the number of hits, as a word. -/
theorem reduce_hits (k l : IVec Cert.ReferenceIdeal.S4096x1 32) (i : Cert.ReferenceIdeal.S_.Idx) :
    Host.reduce IntOp.addi (extui 32 (cmpi .eq k l) Cert.ReferenceIdeal.Gen.natLt_1_32) (constantI Cert.ReferenceIdeal.S_ 32 0#32)
      Cert.ReferenceIdeal.Gen.reducesTo_S4096x1_S_d0_1 Cert.ReferenceIdeal.Gen.h_S_ i
      = BitVec.ofNat 32 (total (fun b => k (ix2 b 0)) (fun b => l (ix2 b 0))) := by
  have : Subsingleton Cert.ReferenceIdeal.S_.Idx := ⟨fun _ _ => funext fun a => a.elim0⟩
  refine (reduce_total (cmpi .eq k l) (constantI Cert.ReferenceIdeal.S_ 32 0#32) _ _ i rfl).trans (congrArg _ ?_)
  refine (sum_idx2 _).trans (Finset.sum_congr rfl fun b _ => ?_)
  exact (Fin.sum_univ_one _).trans (hit_bit _ _)

/-- The sum as a float divided by the float 4096, where the sum is a small number's word. -/
theorem share_word (z : BitVec 32) (g : ℕ) (hg : g ≤ 4096) (hz : z = BitVec.ofNat 32 g) :
    Ideal.div ((z.toInt : ℝ) : EReal) (Ideal.ofBits .f32 0x45800000#32) = (((g : ℝ) / 4096 : ℝ) : EReal) := by
  rw [hz, toInt_count g hg, word_batch, div_coe _ _ (by norm_num), Int.cast_natCast]

/-- The quotient of a float by a constant, read at an index, from a word. -/
theorem share_apply {s : Shape} (z : IVec s 32) (i : s.Idx) (g : ℕ) (hg : g ≤ 4096) (hz : z i = BitVec.ofNat 32 g) :
    (Host.divf (sitofp .f32 z) (constant s .f32 0x45800000#32) : FVec Ideal s .f32) i = (((g : ℝ) / 4096 : ℝ) : EReal) :=
  share_word (z i) g hg hz

/-- The reference's second result: the number of hits by 4096. -/
theorem acc_apply (k l : IVec Cert.ReferenceIdeal.S4096x1 32) (i : Cert.ReferenceIdeal.S_.Idx) :
    (Cert.ReferenceIdeal.Val.acc k l : FVec Ideal Cert.ReferenceIdeal.S_ .f32) i
      = (((total (fun b => k (ix2 b 0)) (fun b => l (ix2 b 0)) : ℝ) / 4096 : ℝ) : EReal) :=
  share_apply _ i _ (total_le _ _) (reduce_hits k l i)

end Cert.Count

namespace Cert.KernelIdeal.Val

open Cert.KernelIdeal.Gen Cert.Nearest Cert.Count
open Idealize.ShloMosaic

/-- A scoring point adds the hits among its instances to the count so far. -/
theorem counted_apply (x : Vec Ideal S512x2048 .f32) (m1 m2 m3 : FVec Ideal S2048x1024 .bf16) (v : Vec Ideal S1x1024 .f32)
    (l : IVec S512x1 32) (a : Vec Ideal S1x1 .f32) (g : ℕ) (i : S1x1.Idx) (ha : a i = ((g : ℝ) : EReal)) :
    counted x m1 m2 m3 v l a i
      = (((g + ∑ r : Fin 512, hit (chosen x m1 m2 m3 v (ix2 r 0)) (l (ix2 r 0)) : ℕ) : ℝ) : EReal) := by
  have hs : (extractAt ![0, 0, 0] (shapeCast S1x1x1 (multiReduction (F := Ideal) .add [1, 2] S1 (shapeCast S1x512x1
      (sitofp .f32 (extui 32 (cmpi .eq (chosen x m1 m2 m3 v) l) natLt_1_32)) shapeCasts_S512x1_S1x512x1) 0x00000000#32 reduces_S1x512x1_S1 (.inl rfl) rfl)
      shapeCasts_S1_S1x1x1) inpos_S1x1x1_p0_0_0 : EReal)
      = ((∑ r : Fin 512, (hit (chosen x m1 m2 m3 v (ix2 r 0)) (l (ix2 r 0)) : ℝ) : ℝ) : EReal) := by
    refine (Ideal.multiReduction_add_total _ _ reduces_S1x512x1_S1 (fun b => match b with | ⟨0, _⟩ => rfl) (.inl rfl) rfl _).trans ?_
    rw [← sum_coe]
    refine (sum_idx3 (n0 := 1) (n1 := 512) (n2 := 1) _).trans ?_
    rw [Fin.sum_univ_one]
    refine Finset.sum_congr rfl fun r _ => ?_
    rw [Fin.sum_univ_one]
    refine (ValueIdx.shapeCast_ab_1ab_apply (a := 512) (b := 1) _ shapeCasts_S512x1_S1x512x1 0 r 0).trans ?_
    refine (congrArg (fun z : ℤ => ((z : ℝ) : EReal)) (hit_toInt (chosen x m1 m2 m3 v (ix2 r 0)) (l (ix2 r 0)))).trans ?_
    exact congrArg _ (Int.cast_natCast _)
  refine (congrArg₂ (fun y z : EReal => y + z) ((congrFun (shapeCast_self a shapeCasts_S1x1_S1x1) i).trans ha) hs).trans ?_
  exact coe_count g fun r => hit (chosen x m1 m2 m3 v (ix2 r 0)) (l (ix2 r 0))

/-- The count starts at zero, -/
theorem pay3_apply (i : S1x1.Idx) : (k0_pay3 : FVec Ideal S1x1 .f32) i = (((0 : ℕ) : ℝ) : EReal) := by
  rw [Nat.cast_zero, EReal.coe_zero]
  unfold k0_pay3
  exact Ideal.ofBits_zero_f32

/-- and it is divided by 4096 at the end. -/
theorem pay5_apply (a : Vec Ideal S1x1 .f32) (g : ℕ) (i : S1x1.Idx) (ha : a i = ((g : ℝ) : EReal)) :
    k0_pay5 a i = (((g : ℝ) / 4096 : ℝ) : EReal) := by
  unfold k0_pay5
  rw [shapeCast_self]
  refine (congrArg₂ (· * ·) ha word_share).trans ?_
  rw [← EReal.coe_mul, mul_one_div]

end Cert.KernelIdeal.Val

end
-- ==== Proof.ClassValue.lean ====
/- The kernel's two results, read: the first is each instance's nearest class, the second the share of hits. -/
module

public import proofs.«01_k».proof.Proof.PartValue
public import proofs.«01_k».proof.Proof.Count

@[expose] public section

set_option maxRecDepth 16384

noncomputable section

namespace Cert.KernelIdeal.Val

open Cert.KernelIdeal.Gen Cert.Nearest Cert.Count
open Idealize.ShloMosaic Idealize.ShloMosaic.TcCoe Idealize.SL.Sem

variable (m : (ℓ : Loc nD τ sig) → Buf (Elt Ideal) ℓ) (c : Dev nD) (X : Fin 4096 → Fin 2048 → ℝ) {W : Fin 1000 → Fin 10 → Fin 2048 → ℝ}

/-- The instances argument holds the reals `X`. -/
def HoldsInstances : Prop := ∀ b d, m ((c : Thread nD τ).loc main_arg0) (ix2 b d) = (X b d : EReal)

variable {m c X} (hX : HoldsInstances m c X) (hW : HoldsMemory m c W)

/-- On the first 1000 columns the kernel's score, from the padded centres, is the score. -/
theorem score_eq (b : Fin 4096) (n : Fin 1000) :
    (∑ e : Fin 2048, column W e ⟨n.val, by omega⟩ * column W e ⟨n.val, by omega⟩)
      - 2 * ∑ e : Fin 2048, X b e * column W e ⟨n.val, by omega⟩ = score X W b n := by
  have h : ∀ e, column W e ⟨n.val, by omega⟩ = center W n e := fun e => dif_pos n.isLt
  simp only [h]
  rfl

include hX hW

/-- A scoring point's choice for its row `r`, instance `b`, is the nearest class of `b`. -/
theorem best_apply (t : Fin cfg0.N) (h : 8 ≤ t.val) (r : Fin 512) (b : Fin 4096) (hb : b.val = 512 * (t.val - 8) + r.val) (u : Fin 1) :
    best m c t (ix2 r u) = BitVec.ofNat 32 (nearest X W b).val :=
  chosen_apply r (X b) (column W) (fun n => ∑ e : Fin 2048, column W e n * column W e n)
    (fun e => (iblk1_apply m c t h r e b hb).trans (hX b e)) (fun e n => part1_apply hW e n) (fun y => part2_apply hW y)
    (fun y => part3_apply hW y) (fun u n => norms_eight hW u n) (score X W b) (fun n => score_eq b n) (nearest X W b)
    (nearest_score X W b) u

/-- The first result, read: each instance's nearest class. -/
theorem kcls_apply (b : Fin 4096) (u : Fin 1) : kcls m c (ix2 b u) = BitVec.ofNat 32 (nearest X W b).val :=
  best_apply hX hW (scorePoint b) (by show 8 ≤ 8 + b.val / 512; omega) ⟨b.val % 512, Nat.mod_lt _ (by decide)⟩ b
    (by show b.val = 512 * (8 + b.val / 512 - 8) + b.val % 512; omega) ⟨u.val, u.isLt⟩

/-- Whether instance `b`'s nearest class is its label. -/
def hitAt (m : (ℓ : Loc nD τ sig) → Buf (Elt Ideal) ℓ) (c : Dev nD) (X : Fin 4096 → Fin 2048 → ℝ) (W : Fin 1000 → Fin 10 → Fin 2048 → ℝ)
    (b : Fin 4096) : ℕ :=
  hit (BitVec.ofNat 32 (nearest X W b).val) (m ((c : Thread nD τ).loc main_arg1) (ix2 b 0))

/-- Before scoring point `t` the count is the number of hits in the first `t` blocks of instances. -/
theorem hits_apply (i : S1x1.Idx) : ∀ t (h : t ≤ 8), hits m c (8 + t) i
    = (((∑ s : Fin t, ∑ r : Fin 512, hitAt m c X W ⟨s.val * 512 + r.val, by omega⟩ : ℕ) : ℝ) : EReal)
  | 0, _ => by
    rw [Fin.sum_univ_zero]
    exact (congrFun (hits_zero m c) i).trans (pay3_apply i)
  | t + 1, h => by
    rw [Fin.sum_univ_castSucc]
    have e := hits_score m c (pt (8 + t) (by omega)) (by show 8 ≤ 8 + t; omega)
    refine (congrFun e i).trans ((counted_apply _ _ _ _ _ _ _ _ i (hits_apply i t (by omega))).trans ?_)
    refine congrArg (fun g : ℕ => ((g : ℝ) : EReal)) (congrArg _ (Finset.sum_congr rfl fun r _ => ?_))
    exact congrArg₂ hit
      (best_apply hX hW (pt (8 + t) (by omega)) (by show 8 ≤ 8 + t; omega) r ⟨t * 512 + r.val, by omega⟩
        (by show t * 512 + r.val = 512 * (8 + t - 8) + r.val; omega) 0)
      (iblk2_apply m c (pt (8 + t) (by omega)) (by show 8 ≤ 8 + t; omega) r 0 ⟨t * 512 + r.val, by omega⟩
        (by show t * 512 + r.val = 512 * (8 + t - 8) + r.val; omega))

/-- The count scaled is the number of hits among all instances by 4096. -/
theorem kacc_apply (i : S1x1.Idx) : kacc m c i
    = (((total (fun b => BitVec.ofNat 32 (nearest X W b).val) (fun b => m ((c : Thread nD τ).loc main_arg1) (ix2 b 0)) : ℝ) / 4096 : ℝ) : EReal) := by
  refine (pay5_apply _ _ i (hits_apply hX hW i 8 le_rfl)).trans ?_
  exact congrArg (fun g : ℕ => (((g : ℝ) / 4096 : ℝ) : EReal)) (Fin.sum_mul_add_fin 8 512 (hitAt m c X W))

end Cert.KernelIdeal.Val

end
-- ==== Proof.RefArgmin.lean ====
/- The reference's reduction over classes: on real distances it gives the number of the first least one. -/
module

public import proofs.«01_k».proof.Proof.RefRun
public import proofs.«01_k».proof.Proof.Nearest
public import Idealize.ShloMosaic.Lib.Pipeline.Value
public import Idealize.ShloMosaic.Lib.Pointwise

@[expose] public section

set_option maxRecDepth 16384

noncomputable section

namespace Cert.ReferenceIdeal.Val

open Cert.ReferenceIdeal Cert.ReferenceIdeal.Gen Cert.Nearest
open Idealize.ShloMosaic

/-! ## The fold that finds the least distance -/

variable (D : Fin 1000 → ℝ)

/-- What the fold reads for class `n`: its distance and its number. -/
def entry (n : Fin 1000) : Ideal .f32 × BitVec 32 := ((D n : EReal), BitVec.ofNat 32 n.val)

/-- What the fold starts from: plus infinity and zero. -/
def start : Ideal .f32 × BitVec 32 := (Ideal.ofBits .f32 0x7F800000#32, 0#32)

/-- Numbers of classes compare as words as they do as numbers. -/
theorem slt_class (i k : Fin 1000) :
    IntOp.cmpi .slt (BitVec.ofNat 32 i.val) (BitVec.ofNat 32 k.val) = BitVec.ofBool (decide (i < k)) := by
  have e (j : Fin 1000) : (BitVec.ofNat 32 j.val).toInt = (j.val : ℤ) := by
    have hj := j.isLt
    rw [BitVec.toInt_ofNat', Int.bmod_eq_of_le] <;> omega
  show BitVec.ofBool (BitVec.slt _ _) = _
  rw [BitVec.slt, e, e]
  exact congrArg BitVec.ofBool (decide_eq_decide.2 Nat.cast_lt)

/-- One step of the fold keeps the entry of less distance, of equal distances the one of less number. -/
theorem step_entry (i k : Fin 1000) :
    reducer_argmin_f32_i32 (entry D i) (entry D k) = if D i < D k ∨ (D i = D k ∧ i < k) then entry D i else entry D k := by
  simp only [reducer_argmin_f32_i32, entry, slt_class, Ideal.cmpf_def, Ideal.cmp, EReal.coe_lt_coe_iff, EReal.coe_eq_coe_iff]
  by_cases h1 : D i < D k
  · simp [h1, h1.ne, Scalar.select, IntOp.ori, IntOp.andi]
  · by_cases h2 : D i = D k
    · by_cases h3 : i < k
      · simp [h2, h3, Scalar.select, IntOp.ori, IntOp.andi]
      · simp [h2, h3, Scalar.select, IntOp.ori, IntOp.andi]
    · simp [h1, h2, Scalar.select, IntOp.ori, IntOp.andi]

/-- The first step takes the entry it reads. -/
theorem step_start (k : Fin 1000) : reducer_argmin_f32_i32 start (entry D k) = entry D k := by
  simp [reducer_argmin_f32_i32, entry, start, word_top, Ideal.cmpf_def, Ideal.cmp, Scalar.select, IntOp.ori, IntOp.andi]

variable {D} {a : Fin 1000} (ha : IsFirst D a)
include ha

/-- The first least entry stays, -/
theorem step_first_left (k : Fin 1000) : reducer_argmin_f32_i32 (entry D a) (entry D k) = entry D a := by
  rw [step_entry]
  by_cases h : D a < D k ∨ (D a = D k ∧ a < k)
  · rw [if_pos h]
  · rw [if_neg h]
    push Not at h
    have e : D a = D k := le_antisymm (ha.1 k) h.1
    have hk : k = a := (h.2 e).antisymm (not_lt.1 fun hl => absurd (ha.2 k hl) (by rw [e]; exact lt_irrefl _))
    rw [hk]

/-- and replaces every other. -/
theorem step_first_right (i : Fin 1000) : reducer_argmin_f32_i32 (entry D i) (entry D a) = entry D a := by
  rw [step_entry]
  by_cases h : D i < D a ∨ (D i = D a ∧ i < a)
  · rcases h with h | ⟨h, hl⟩
    · exact absurd h (not_lt.2 (ha.1 i))
    · exact absurd (ha.2 i hl) (by rw [h]; exact lt_irrefl _)
  · rw [if_neg h]

theorem fold_first (l : List (Ideal .f32 × BitVec 32)) (hl : ∀ e ∈ l, ∃ n, e = entry D n) :
    l.foldl reducer_argmin_f32_i32 (entry D a) = entry D a := by
  induction l with
  | nil => rfl
  | cons e l ih =>
    obtain ⟨n, rfl⟩ := hl e (List.mem_cons_self ..)
    rw [List.foldl_cons, step_first_left ha]
    exact ih fun e he => hl e (List.mem_cons_of_mem _ he)

/-- A fold over entries that meets the first least one ends at it. -/
theorem fold_entries (l : List (Ideal .f32 × BitVec 32)) (hl : ∀ e ∈ l, ∃ n, e = entry D n) (hm : entry D a ∈ l)
    (r : Ideal .f32 × BitVec 32) (hr : r = start ∨ ∃ n, r = entry D n) : l.foldl reducer_argmin_f32_i32 r = entry D a := by
  induction l generalizing r with
  | nil => exact absurd hm (List.not_mem_nil)
  | cons e l ih =>
    obtain ⟨n, hn⟩ := hl e (List.mem_cons_self ..)
    have hl' := fun e he => hl e (List.mem_cons_of_mem _ he)
    rw [List.foldl_cons]
    rcases List.mem_cons.1 hm with hm | hm
    · rw [← hm]
      rcases hr with rfl | ⟨i, rfl⟩
      · rw [step_start]; exact fold_first ha l hl'
      · rw [step_first_right ha]; exact fold_first ha l hl'
    · refine ih hl' hm _ (.inr ?_)
      rw [hn]
      rcases hr with rfl | ⟨i, rfl⟩
      · exact ⟨n, step_start D n⟩
      · rw [step_entry]; split
        exacts [⟨i, rfl⟩, ⟨n, rfl⟩]

omit ha in
/-- What the reduction folds over at `j`: the pairs read at the indices that drop to `j`. -/
theorem mem_fiber {s t : Shape} {axes : List (Fin s.rank)} {α β : Type} (x : s.Idx → α) (y : s.Idx → β)
    (h : s.ReducesTo axes t) (j : t.Idx) (e : α × β) :
    e ∈ Host.argReduceFiber x y h j ↔ ∃ i, h.drop i = j ∧ e = (x i, y i) := by
  unfold Host.argReduceFiber
  constructor
  · intro he
    obtain ⟨k, hk, rfl⟩ := List.mem_map.1 he
    exact ⟨_, of_decide_eq_true (List.mem_filter.1 hk).2, rfl⟩
  · rintro ⟨i, hi, rfl⟩
    refine List.mem_map.2 ⟨s.rowMajor i, List.mem_filter.2 ⟨List.mem_finRange _, decide_eq_true ?_⟩, ?_⟩
    · rw [Equiv.symm_apply_apply]; exact hi
    · rw [Equiv.symm_apply_apply]

/-- A reduction whose entries are real distances with their numbers gives the entry of the first least one. -/
theorem argReduce_first {s t u : Shape} {axes : List (Fin s.rank)} (x : FVec Ideal s .f32) (y : IVec s 32)
    (ix : FVec Ideal u .f32) (iy : IVec u 32) (h : s.ReducesTo axes t) (hu : 0 < u.numel) (j : t.Idx)
    (hmem : ∀ i, h.drop i = j → ∃ n, (x i, y i) = entry D n) (i₀ : s.Idx) (hi₀ : h.drop i₀ = j) (he : (x i₀, y i₀) = entry D a)
    (hs : (ix (Shape.Idx.first hu), iy (Shape.Idx.first hu)) = start) :
    Host.argReduce reducer_argmin_f32_i32 x y ix iy h hu j = entry D a := by
  rw [Ideal.argReduce_eq_reduce2, Host.reduce2_eq_foldl_fiber, hs]
  refine fold_entries ha _ (fun e hm => ?_) ((mem_fiber _ _ _ _ _).2 ⟨i₀, hi₀, he.symm⟩) _ (.inl rfl)
  obtain ⟨i, hi, rfl⟩ := (mem_fiber _ _ _ _ _).1 hm
  exact hmem i hi

omit ha in
theorem seconds_apply {α β ι : Type} (f : ι → α × β) (j : ι) : seconds f j = (f j).2 := rfl

omit ha in
/-- Dropping the second coordinate leaves the first. -/
theorem drop_row (i : S4096x1000.Idx) : reducesTo_S4096x1000_S4096_d1.drop i = ix1 (i 0) := by
  funext c
  match c with
  | ⟨0, _⟩ => exact Fin.ext (Shape.ReducesTo.drop_apply_val_of_eq reducesTo_S4096x1000_S4096_d1 i 0 0)

omit ha in
/-- The reduction over a row of real distances gives the number of the first least one. -/
theorem argmin_apply (d : FVec Ideal S4096x1000 .f32) (b : Fin 4096) (D : Fin 1000 → ℝ) (hd : ∀ n, d (ix2 b n) = (D n : EReal))
    (a : Fin 1000) (ha : IsFirst D a) : argmin d (ix1 b) = BitVec.ofNat 32 a.val := by
  have hmem (i : S4096x1000.Idx) (h : reducesTo_S4096x1000_S4096_d1.drop i = ix1 b) :
      ∃ n, (d i, iotaInDim S4096x1000 32 1 i) = entry D n := by
    have e : i = ix2 b (i 1) :=
      Shape.idx_ext₂ (congrArg Fin.val (congrFun ((drop_row i).symm.trans h) 0 : (i 0 : Fin 4096) = b)) rfl
    exact ⟨i 1, Prod.ext ((congrArg d e).trans (hd _)) (ValueIdx.iotaInDim_apply 32 1 i)⟩
  have he : (d (ix2 b a), iotaInDim S4096x1000 32 1 (ix2 b a)) = entry D a :=
    Prod.ext (hd a) (ValueIdx.iotaInDim_apply 32 1 (ix2 b a))
  have hf := argReduce_first ha d (iotaInDim S4096x1000 32 1) (constant S_ .f32 0x7F800000#32) (constantI S_ 32 0#32)
    reducesTo_S4096x1000_S4096_d1 h_S_ (ix1 b) hmem (ix2 b a) (drop_row _) he rfl
  unfold argmin
  rw [seconds_apply, hf, entry]

end Cert.ReferenceIdeal.Val

end
-- ==== Proof.RefValue.lean ====
/- What the reference computes on real inputs: the distances are the square roots of the squared distances, and the class it
   chooses is the first of least distance. -/
module

public import proofs.«01_k».proof.Proof.RefArgmin
public import proofs.«01_k».proof.Proof.Nearest
public import Idealize.ShloMosaic.Lib.Pipeline.Value
public import Idealize.ShloMosaic.Lib.Pointwise

@[expose] public section

set_option maxRecDepth 16384

noncomputable section

namespace Cert.ReferenceIdeal.Val

open Cert.ReferenceIdeal Cert.ReferenceIdeal.Gen Cert.Nearest
open Idealize.ShloMosaic

variable (x : FVec Ideal S4096x2048 .f32) (w : FVec Ideal S1000x10x2048 .f32)
variable (X : Fin 4096 → Fin 2048 → ℝ) (W : Fin 1000 → Fin 10 → Fin 2048 → ℝ)

/-- The mean over the ten slots is the real mean. -/
theorem mean_apply (hw : ∀ n k d, w (ix3 n k d) = (W n k d : EReal)) (n : Fin 1000) (d : Fin 2048) :
    mean w (ix2 n d) = (((∑ k, W n k d) / 10 : ℝ) : EReal) := by
  unfold mean
  rw [ValueIdx.hostDivf_apply, ValueIdx.hostReduceAdd_apply, ValueIdx.broadcastInDim_scalar_apply,
    Ideal.hostReduceAdd_single _ (by decide : S1000x10x2048.Reduces [1] S1000x2048)]
  have hs : ∑ k : Fin 10, w ((by decide : S1000x10x2048.Reduces [1] S1000x2048).lift (ix2 n d) k)
      = ((∑ k, W n k d : ℝ) : EReal) := by
    rw [← sum_coe]
    refine Finset.sum_congr rfl fun k _ => ?_
    rw [← hw n k d]
    exact congrArg w (funext fun a => match a with | ⟨0, _⟩ => rfl | ⟨1, _⟩ => rfl | ⟨2, _⟩ => rfl)
  refine (congrArg₂ Ideal.div (congrArg₂ (· + ·) Ideal.ofBits_zero_f32 hs) word_ten).trans ?_
  rw [zero_add]
  exact div_coe _ _ (by norm_num)

/-- The difference is the instance less the class's centre. -/
theorem diff_apply (hx : ∀ b d, x (ix2 b d) = (X b d : EReal)) (hw : ∀ n k d, w (ix3 n k d) = (W n k d : EReal))
    (b : Fin 4096) (n : Fin 1000) (d : Fin 2048) :
    diff x w (ix3 b n d) = ((X b d - center W n d : ℝ) : EReal) := by
  have h1 : broadcastInDim S4096x1000x2048 ![0, 1, 2] bcast_S4096x1x2048_S4096x1000x2048_0_1_2
      (broadcastInDim S4096x1x2048 ![0, 2] bcast_S4096x2048_S4096x1x2048_0_2 x) (ix3 b n d) = (X b d : EReal) := by
    rw [← hx b d]
    refine (broadcastInDim_apply _ _ _ (ix3 b n d) (ix3 b 0 d) fun a => ?_).trans
      (broadcastInDim_apply _ _ _ (ix3 b 0 d) (ix2 b d) fun a => ?_)
    · match a with | ⟨0, _⟩ => rfl | ⟨1, _⟩ => rfl | ⟨2, _⟩ => rfl
    · match a with | ⟨0, _⟩ => rfl | ⟨1, _⟩ => rfl
  have h2 : broadcastInDim S4096x1000x2048 ![0, 1, 2] bcast_S1x1000x2048_S4096x1000x2048_0_1_2
      (broadcastInDim S1x1000x2048 ![1, 2] bcast_S1000x2048_S1x1000x2048_1_2 (mean w)) (ix3 b n d)
      = (((∑ k, W n k d) / 10 : ℝ) : EReal) := by
    rw [← mean_apply w W hw n d]
    refine (broadcastInDim_apply _ _ _ (ix3 b n d) (ix3 0 n d) fun a => ?_).trans
      (broadcastInDim_apply _ _ _ (ix3 0 n d) (ix2 n d) fun a => ?_)
    · match a with | ⟨0, _⟩ => rfl | ⟨1, _⟩ => rfl | ⟨2, _⟩ => rfl
    · match a with | ⟨0, _⟩ => rfl | ⟨1, _⟩ => rfl
  refine (congrArg₂ (· + ·) (congrArg₂ (· - ·) h1 h2) word_eps).trans ?_
  rw [← EReal.coe_sub, ← EReal.coe_add]
  exact congrArg _ (by unfold center; ring)

/-- The distance is the square root of the squared distance. -/
theorem dist_apply (hx : ∀ b d, x (ix2 b d) = (X b d : EReal)) (hw : ∀ n k d, w (ix3 n k d) = (W n k d : EReal))
    (b : Fin 4096) (n : Fin 1000) : dist x w (ix2 b n) = (Real.sqrt (sqDist X W b n) : EReal) := by
  have hs : ∑ d : Fin 2048, mulf (diff x w) (diff x w) ((by decide : S4096x1000x2048.Reduces [2] S4096x1000).lift (ix2 b n) d)
      = ((sqDist X W b n : ℝ) : EReal) := by
    unfold sqDist
    rw [← sum_coe]
    refine Finset.sum_congr rfl fun d _ => ?_
    rw [EReal.coe_mul, ← diff_apply x w X W hx hw b n d]
    exact congrArg (mulf (diff x w) (diff x w)) (funext fun a => match a with | ⟨0, _⟩ => rfl | ⟨1, _⟩ => rfl | ⟨2, _⟩ => rfl)
  show Ideal.sqrt (Ideal.hostReduceAdd _ _ _ _) = _
  rw [Ideal.hostReduceAdd_single _ (by decide : S4096x1000x2048.Reduces [2] S4096x1000)]
  refine (congrArg Ideal.sqrt (congrArg₂ (· + ·) Ideal.ofBits_zero_f32 hs)).trans ?_
  rw [zero_add, Ideal.sqrt_coe, if_neg (not_lt.2 (sqDist_nonneg X W b n))]

/-- The reference's first result on real inputs: each row holds the number of the nearest class. -/
theorem cls_apply (hx : ∀ b d, x (ix2 b d) = (X b d : EReal)) (hw : ∀ n k d, w (ix3 n k d) = (W n k d : EReal))
    (b : Fin 4096) (u : Fin 1) : cls x w (ix2 b u) = BitVec.ofNat 32 (nearest X W b).val := by
  unfold cls
  rw [broadcastInDim_apply _ _ _ (ix2 b u) (ix1 b) (fun a => match a with | ⟨0, _⟩ => rfl)]
  exact argmin_apply _ b _ (dist_apply x w X W hx hw b) _ (nearest_dist X W b)

end Cert.ReferenceIdeal.Val

end
-- ==== Proof.Finite.lean ====
/- What the precondition gives: every element of the instances and of the memory is a real number. -/
module

public import proofs.«01_k».proof.Proof.Gen.Pre_finite
public import Idealize.ShloMosaic.Lib.ReduceAll
public import Idealize.ShloMosaic.Lib.IdealHost
public import Idealize.ShloMosaic.Lib.Pipeline.Value
public import Idealize.ShloMosaic.Lib.Pointwise

@[expose] public section

noncomputable section

namespace Cert.Finite

open Cert.Pre_finite
open Idealize.ShloMosaic

/-- A number whose absolute value is below plus infinity is real. -/
theorem real_of_abs (v : EReal) (h : Ideal.cmp .olt (max v (-v)) (Ideal.ofBits .f32 0x7F800000#32) = 1#1) :
    v = (v.toReal : EReal) := by
  have ht : Ideal.ofBits .f32 0x7F800000#32 = ⊤ := by simp [Ideal.ofBits, Ideal.ieee]
  rw [ht] at h
  refine (EReal.coe_toReal ?_ ?_).symm
  · rintro rfl; simp [Ideal.cmp] at h
  · rintro rfl; simp [Ideal.cmp] at h

instance : Subsingleton S_.Idx := ⟨fun _ _ => funext fun a => a.elim0⟩

/-- Under the precondition the two float arguments hold real numbers. -/
theorem reals (x : FVec Ideal S4096x2048 .f32) (k : IVec S4096x1 32) (w : FVec Ideal S1000x10x2048 .f32)
    (h : fn x k w = fun _ => 1#1) : (∀ i, x i = ((x i).toReal : EReal)) ∧ ∀ i, w i = ((w i).toReal : EReal) := by
  obtain ⟨hx, hw⟩ := IntOp.andi_eq_one.1 (congrFun h fun a => a.elim0)
  exact ⟨fun i => real_of_abs _ (Host.reduce_andi_all _ _ _ _ _ hx i), fun i => real_of_abs _ (Host.reduce_andi_all _ _ _ _ _ hw i)⟩

end Cert.Finite

end
-- ==== Proof.Equation.lean ====
/- The kernel's results are the reference's, from arguments whose floats are real. -/
module

public import proofs.«01_k».proof.Proof.ClassValue
public import proofs.«01_k».proof.Proof.RefValue
public import proofs.«01_k».proof.Proof.Finite

@[expose] public section

set_option maxRecDepth 16384

noncomputable section

namespace Cert.Equation

open Cert.Nearest Cert.KernelIdeal Cert.KernelIdeal.Val
open Idealize.ShloMosaic Idealize.ShloMosaic.TcCoe Idealize.SL.Sem

variable (m : (ℓ : Loc nD τ sig) → Buf (Elt Ideal) ℓ) (c : Dev nD)

/-- The instances argument, -/
abbrev instances : FVec Ideal S4096x2048 .f32 := m ((c : Thread nD τ).loc main_arg0)

/-- the labels argument, -/
abbrev labels : IVec S4096x1 32 := m ((c : Thread nD τ).loc main_arg1)

/-- and the memory argument of a device. -/
abbrev slots : FVec Ideal S1000x10x2048 .f32 := m ((c : Thread nD τ).loc main_arg2)

/-- The instances as reals. -/
def realX (b : Fin 4096) (d : Fin 2048) : ℝ := (instances m c (ix2 b d)).toReal

/-- The memory as reals. -/
def realW (n : Fin 1000) (k : Fin 10) (d : Fin 2048) : ℝ := (slots m c (ix3 n k d)).toReal

variable (h : Cert.Pre_finite.fn (instances m c) (labels m c) (slots m c) = fun _ => 1#1)
include h

theorem holdsX : HoldsInstances m c (realX m c) := fun b d => (Cert.Finite.reals _ _ _ h).1 (ix2 b d)

theorem holdsW : HoldsMemory m c (realW m c) := fun n k d => (Cert.Finite.reals _ _ _ h).2 (ix3 n k d)

/-- The reference's first result, read. -/
theorem ref_cls (b : Fin 4096) (u : Fin 1) : Cert.ReferenceIdeal.Val.cls (instances m c) (slots m c) (ix2 b u)
    = BitVec.ofNat 32 (nearest (realX m c) (realW m c) b).val :=
  Cert.ReferenceIdeal.Val.cls_apply (instances m c) (slots m c) (realX m c) (realW m c) (holdsX m c h) (holdsW m c h) b u

/-- The first results are equal. -/
theorem cls_eq : Cert.ReferenceIdeal.Val.cls (instances m c) (slots m c) = kcls m c := by
  funext i
  obtain ⟨b, u, rfl⟩ : ∃ (b : Fin 4096) (u : Fin 1), i = ix2 b u := ⟨i 0, i 1, (ix2_eta i).symm⟩
  exact (ref_cls m c h b u).trans (kcls_apply (holdsX m c h) (holdsW m c h) b u).symm

/-- The second results are equal. -/
theorem acc_eq : Cert.ReferenceIdeal.Val.acc (F := Ideal) (Cert.ReferenceIdeal.Val.cls (instances m c) (slots m c)) (labels m c)
    = shapeCast S_ (kacc m c) Cert.KernelIdeal.Gen.shapeCasts_S1x1_S_ := by
  funext i
  refine (Cert.Count.acc_apply _ _ i).trans (Eq.trans ?_ (kacc_apply (holdsX m c h) (holdsW m c h) _).symm)
  exact congrArg (fun k => (((Cert.Count.total k (fun b => labels m c (ix2 b 0)) : ℝ) / 4096 : ℝ) : EReal))
    (funext fun b => ref_cls m c h b 0)

end Cert.Equation

end
-- ==== Proof.Machine.lean ====
/- The kernel on machine floats is the same program as its idealization: no operation was rewritten, so the launch proved for any
   floats is its launch too. -/
module

public import proofs.«01_k».proof.Defs
public import proofs.«01_k».proof.Proof.Launch
public import proofs.«01_k».proof.Proof.Gen.Kernel

@[expose] public section

set_option maxRecDepth 16384

noncomputable section

namespace Cert.Machine

open Idealize.ShloMosaic Idealize.SL.Sem

variable {F : FTy → Type} [FloatOps F]

/-- The two programs' kernel bodies are equal, part by part, -/
theorem part1_eq : Cert.Kernel.k0_part1 (F := F) = Cert.KernelIdeal.k0_part1 (F := F) := rfl

theorem part2_eq : Cert.Kernel.k0_part2 (F := F) = Cert.KernelIdeal.k0_part2 (F := F) := rfl

/-- and whole; -/
theorem body_eq : Cert.Kernel.cc0__fused_kernel (F := F) = Cert.KernelIdeal.cc0__fused_kernel (F := F) := rfl

/-- so are their tables of bodies, -/
theorem bodies_eq : Cert.Kernel.defs₀ (F := F) = Cert.KernelIdeal.defs₀ (F := F) := by
  unfold Cert.Kernel.defs₀ Cert.KernelIdeal.defs₀
  refine congrArg _ ?_
  funext l a
  match l, a with
  | ⟨0, _⟩, (t, s) => rfl

/-- their tables with the pipeline's code, -/
theorem table_eq : Cert.Kernel.defs (F := F) = Cert.KernelIdeal.defs (F := F) :=
  congrArg (Idealize.ShloMosaic.Pipeline.defs Cert.KernelIdeal.pcfgs) bodies_eq

/-- and their main programs. -/
theorem main_eq : Cert.Kernel.main (F := F) = Cert.KernelIdeal.main (F := F) := rfl

/-- The kernel on machine floats runs, its arguments end unchanged and every semaphore ends at zero. -/
theorem frame : Cert.quiescent_Kernel (hKernel := Cert.Kernel.Gen.facts) := fun m g _ => by
  have h := Cert.KernelIdeal.Val.frame_main (F := Bits) m g
  rw [← table_eq] at h
  exact h

end Cert.Machine

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Equation
public import proofs.«01_k».proof.Proof.Machine
public import Idealize.ShloMosaic.Adequacy
public import Idealize.ShloMosaic.Init

@[expose] public section

noncomputable section

namespace Cert.Proof

open Idealize.ShloMosaic Idealize.SL.Sem Cert.Kernel

/-- The kernel at machine floats: it runs, its arguments end unchanged, every semaphore ends at zero. -/
theorem kernel_frame : Cert.quiescent_Kernel := Cert.Machine.frame

/-- The same for the kernel at extended reals. -/
theorem ideal_frame : Cert.quiescent_KernelIdeal := fun m g _ => Cert.KernelIdeal.Val.frame_main m g

/-- The same on finite arguments. -/
theorem ideal_frame_finite : Cert.quiescent_KernelIdeal_pre_finite := fun m g _ => Cert.KernelIdeal.Val.frame_main m g

/-- The reference's run, its arguments and semaphores alone. -/
theorem reference_run (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
        ∧ r.2.sem = fun _ => 0) :=
  (θ_run _ _ _).mono (fun r h => ⟨fun c => (h c).2.2, sem_eq_zero_of_no_sems (by decide) r.2⟩) (Cert.ReferenceIdeal.Val.run_main m g)

/-- The reference: it runs, its arguments end unchanged, every semaphore ends at zero. -/
theorem reference_frame : Cert.quiescent_ReferenceIdeal := fun m g _ => reference_run m g

/-- The same on finite arguments. -/
theorem reference_frame_finite : Cert.quiescent_ReferenceIdeal_pre_finite := fun m g _ => reference_run m g

/-- On finite arguments the kernel's two results are the reference's. -/
theorem equal_results : Cert.algebraic_KernelIdeal_ReferenceIdeal_pre_finite := by
  intro m g m' g' hfin hargs
  refine ⟨fun c => Cert.KernelIdeal.Val.kcls m c,
    fun c => shapeCast Cert.KernelIdeal.S_ (Cert.KernelIdeal.Val.kacc m c) Cert.KernelIdeal.Gen.shapeCasts_S1x1_S_,
    Cert.KernelIdeal.Val.run_results m g, (θ_run _ _ _).mono (fun r h c => ?_) (Cert.ReferenceIdeal.Val.run_main m' g')⟩
  obtain ⟨h0, h1, hrest⟩ := h c
  obtain ⟨e0, e1, e2⟩ := hargs c
  rw [e0, e2] at h0
  rw [e0, e1, e2] at h1
  exact ⟨h0.trans (Cert.Equation.cls_eq m c (hfin c)), h1.trans (Cert.Equation.acc_eq m c (hfin c)), hrest⟩

/-- Everything claimed. -/
theorem claim : Cert.Claim :=
  ⟨Cert.Kernel.Gen.facts, Cert.KernelIdeal.Gen.facts, Cert.ReferenceIdeal.Gen.facts, Cert.Pre_finite.Gen.facts,
    kernel_frame, ideal_frame, ideal_frame_finite, reference_frame, reference_frame_finite, trivial, equal_results⟩

end Cert.Proof

end
